-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_KernelIdeal_labels_name_bins [hPre_labels_name_bins : Cert.Pre_labels_name_bins.Facts] (m : (ℓ : Loc Cert.KernelIdeal.nD Cert.KernelIdeal.τ Cert.KernelIdeal.sig) → Buf (Elt Ideal) ℓ) : Prop :=
  ∀ c : Dev Cert.KernelIdeal.nD,
    (Cert.Pre_labels_name_bins.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8))) = (fun _ => 1#1)

def Pre_ReferenceIdeal (m : (ℓ : Loc Cert.ReferenceIdeal.nD Cert.ReferenceIdeal.τ Cert.ReferenceIdeal.sig) → Buf (Elt Ideal) ℓ) : Prop :=
  True

def Pre_ReferenceIdeal_labels_name_bins [hPre_labels_name_bins : Cert.Pre_labels_name_bins.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_labels_name_bins.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8))) = (fun _ => 1#1)

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8))
      ∧ r.2.sem = fun _ => 0)

def quiescent_KernelIdeal_pre_labels_name_bins [hKernelIdeal : Cert.KernelIdeal.Facts] [hPre_labels_name_bins : Cert.Pre_labels_name_bins.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal_labels_name_bins m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8))
      ∧ r.2.sem = fun _ => 0)

def quiescent_ReferenceIdeal_pre_labels_name_bins [hReferenceIdeal : Cert.ReferenceIdeal.Facts] [hPre_labels_name_bins : Cert.Pre_labels_name_bins.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_labels_name_bins m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8))
      ∧ r.2.sem = fun _ => 0)

def preserves_Kernel_KernelIdeal : Prop :=
  IdealRules.named_const.Statement Cert.KernelIdeal.κ "two_pi" .f32 0x40C90FDB#32 ((2 * Real.pi : ℝ) : EReal)
  ∧ IdealRules.named_const.Statement Cert.KernelIdeal.κ "taylor_14" .f32 0xAD49CBA5#32 ((-1 / 87178291200 : ℝ) : EReal)
  ∧ IdealRules.named_const.Statement Cert.KernelIdeal.κ "taylor_12" .f32 0x310F76C7#32 ((1 / 479001600 : ℝ) : EReal)
  ∧ IdealRules.named_const.Statement Cert.KernelIdeal.κ "taylor_10" .f32 0xB493F27E#32 ((-1 / 3628800 : ℝ) : EReal)
  ∧ IdealRules.named_const.Statement Cert.KernelIdeal.κ "taylor_8" .f32 0x37D00D01#32 ((1 / 40320 : ℝ) : EReal)
  ∧ IdealRules.named_const.Statement Cert.KernelIdeal.κ "taylor_6" .f32 0xBAB60B61#32 ((-1 / 720 : ℝ) : EReal)
  ∧ IdealRules.named_const.Statement Cert.KernelIdeal.κ "taylor_4" .f32 0x3D2AAAAB#32 ((1 / 24 : ℝ) : EReal)
  ∧ IdealRules.named_const.Statement Cert.KernelIdeal.κ "taylor_13" .f32 0x2F309231#32 ((1 / 6227020800 : ℝ) : EReal)
  ∧ IdealRules.named_const.Statement Cert.KernelIdeal.κ "taylor_11" .f32 0xB2D7322B#32 ((-1 / 39916800 : ℝ) : EReal)
  ∧ IdealRules.named_const.Statement Cert.KernelIdeal.κ "taylor_9" .f32 0x3638EF1D#32 ((1 / 362880 : ℝ) : EReal)
  ∧ IdealRules.named_const.Statement Cert.KernelIdeal.κ "taylor_7" .f32 0xB9500D01#32 ((-1 / 5040 : ℝ) : EReal)
  ∧ IdealRules.named_const.Statement Cert.KernelIdeal.κ "taylor_5" .f32 0x3C088889#32 ((1 / 120 : ℝ) : EReal)
  ∧ IdealRules.named_const.Statement Cert.KernelIdeal.κ "taylor_3" .f32 0xBE2AAAAB#32 ((-1 / 6 : ℝ) : EReal)

def algebraic_KernelIdeal_ReferenceIdeal_pre_labels_name_bins [hKernelIdeal : Cert.KernelIdeal.Facts] [hReferenceIdeal : Cert.ReferenceIdeal.Facts] [hPre_labels_name_bins : Cert.Pre_labels_name_bins.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal_labels_name_bins m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)) →
    ∃ (v0 : (c : Dev Cert.KernelIdeal.nD) → Buf (Elt Ideal) ((c.tc : Thread Cert.KernelIdeal.nD Cert.KernelIdeal.τ).loc Cert.KernelIdeal.main_v0)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v0) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v313) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8))

def Claim : Prop :=
  ∃ (hKernel : Cert.Kernel.Facts) (hKernelIdeal : Cert.KernelIdeal.Facts) (hReferenceIdeal : Cert.ReferenceIdeal.Facts) (hPre_labels_name_bins : Cert.Pre_labels_name_bins.Facts),
    quiescent_Kernel (hKernel := hKernel)
    ∧ quiescent_KernelIdeal (hKernelIdeal := hKernelIdeal)
    ∧ quiescent_KernelIdeal_pre_labels_name_bins (hKernelIdeal := hKernelIdeal) (hPre_labels_name_bins := hPre_labels_name_bins)
    ∧ quiescent_ReferenceIdeal (hReferenceIdeal := hReferenceIdeal)
    ∧ quiescent_ReferenceIdeal_pre_labels_name_bins (hReferenceIdeal := hReferenceIdeal) (hPre_labels_name_bins := hPre_labels_name_bins)
    ∧ preserves_Kernel_KernelIdeal
    ∧ algebraic_KernelIdeal_ReferenceIdeal_pre_labels_name_bins (hKernelIdeal := hKernelIdeal) (hReferenceIdeal := hReferenceIdeal) (hPre_labels_name_bins := hPre_labels_name_bins)
-- ==== Pre_labels_name_bins.lean ====
abbrev S256x3 : Shape := ⟨2, ![256, 3]⟩
abbrev S50000 : Shape := ⟨1, ![50000]⟩
abbrev S20 : Shape := ⟨1, ![20]⟩
abbrev S50000x3 : Shape := ⟨2, ![50000, 3]⟩
abbrev S_ : Shape := ⟨0, ![]⟩

class Facts : Prop where
  bcast_S_S50000 : S_.BroadcastsInDim S50000 (![] : Fin 0 → Fin S50000.rank)

variable [Facts]

def fn {F : FTy → Type} [FloatOps F] (main_arg0 : FVec F S256x3 .f32) (main_arg1 : FVec F S50000 .f32) (main_arg2 : FVec F S50000 .f32) (main_arg3 : FVec F S50000 .f32) (main_arg4 : FVec F S20 .f32) (main_arg5 : IVec S50000 1) (main_arg6 : IVec S50000 32) (main_arg7 : IVec S50000x3 32) (main_arg8 : IVec S50000 1) : IVec S50000 1 :=
  let main_c : IVec S_ 32 := constantI S_ 32 0#32
  let main_v0 : IVec S50000 32 := broadcastInDim S50000 ![] bcast_S_S50000 main_c
  let main_v1 : IVec S50000 1 := cmpi .sge main_arg6 main_v0
  let main_c_0 : IVec S_ 32 := constantI S_ 32 20#32
  let main_v2 : IVec S50000 32 := broadcastInDim S50000 ![] bcast_S_S50000 main_c_0
  let main_v3 : IVec S50000 1 := cmpi .slt main_arg6 main_v2
  let main_v4 : IVec S50000 1 := andi main_v1 main_v3
  main_v4
-- ==== Kernel.lean ====
abbrev S256x3 : Shape := ⟨2, ![256, 3]⟩
abbrev S50000 : Shape := ⟨1, ![50000]⟩
abbrev S20 : Shape := ⟨1, ![20]⟩
abbrev S50000x3 : Shape := ⟨2, ![50000, 3]⟩
abbrev S_ : Shape := ⟨0, ![]⟩
abbrev S3x50000 : Shape := ⟨2, ![3, 50000]⟩
abbrev S3x51200 : Shape := ⟨2, ![3, 51200]⟩
abbrev S51200 : Shape := ⟨1, ![51200]⟩
abbrev S16x3200 : Shape := ⟨2, ![16, 3200]⟩
abbrev S32 : Shape := ⟨1, ![32]⟩
abbrev S32x1 : Shape := ⟨2, ![32, 1]⟩
abbrev S1x1 : Shape := ⟨2, ![1, 1]⟩
abbrev S32x3200 : Shape := ⟨2, ![32, 3200]⟩
abbrev S3x3200 : Shape := ⟨2, ![3, 3200]⟩
abbrev S256x3200 : Shape := ⟨2, ![256, 3200]⟩
abbrev S3200 : Shape := ⟨1, ![3200]⟩
abbrev S1x3200 : Shape := ⟨2, ![1, 3200]⟩
abbrev S1x16x3200 : Shape := ⟨3, ![1, 16, 3200]⟩
abbrev S1 : Shape := ⟨1, ![1]⟩
abbrev S1x1x1 : Shape := ⟨3, ![1, 1, 1]⟩

abbrev nBuf : Space → Nat
  | .hbm => 55
  | .vmem => 12
  | .smem => 0
  | _ => 0

abbrev bufTy : (tb : Table) → Fin (tcTables nBuf tb) → BufTy
  | .hbm, ⟨0, _⟩ => ⟨S256x3, .f32⟩
  | .hbm, ⟨1, _⟩ => ⟨S50000, .f32⟩
  | .hbm, ⟨2, _⟩ => ⟨S50000, .f32⟩
  | .hbm, ⟨3, _⟩ => ⟨S50000, .f32⟩
  | .hbm, ⟨4, _⟩ => ⟨S20, .f32⟩
  | .hbm, ⟨5, _⟩ => ⟨S50000, .i1⟩
  | .hbm, ⟨6, _⟩ => ⟨S50000, .i32⟩
  | .hbm, ⟨7, _⟩ => ⟨S50000x3, .i32⟩
  | .hbm, ⟨8, _⟩ => ⟨S50000, .i1⟩
  | .hbm, ⟨9, _⟩ => ⟨S_, .f32⟩
  | .hbm, ⟨10, _⟩ => ⟨S256x3, .f32⟩
  | .hbm, ⟨11, _⟩ => ⟨S256x3, .f32⟩
  | .hbm, ⟨12, _⟩ => ⟨S50000x3, .f32⟩
  | .hbm, ⟨13, _⟩ => ⟨S3x50000, .f32⟩
  | .hbm, ⟨14, _⟩ => ⟨S_, .i32⟩
  | .hbm, ⟨15, _⟩ => ⟨S_, .f32⟩
  | .hbm, ⟨16, _⟩ => ⟨S3x51200, .f32⟩
  | .hbm, ⟨17, _⟩ => ⟨S_, .f32⟩
  | .hbm, ⟨18, _⟩ => ⟨S_, .f32⟩
  | .hbm, ⟨19, _⟩ => ⟨S51200, .f32⟩
  | .hbm, ⟨20, _⟩ => ⟨S16x3200, .f32⟩
  | .hbm, ⟨21, _⟩ => ⟨S_, .f32⟩
  | .hbm, ⟨22, _⟩ => ⟨S_, .f32⟩
  | .hbm, ⟨23, _⟩ => ⟨S51200, .f32⟩
  | .hbm, ⟨24, _⟩ => ⟨S16x3200, .f32⟩
  | .hbm, ⟨25, _⟩ => ⟨S_, .f32⟩
  | .hbm, ⟨26, _⟩ => ⟨S_, .f32⟩
  | .hbm, ⟨27, _⟩ => ⟨S51200, .f32⟩
  | .hbm, ⟨28, _⟩ => ⟨S16x3200, .f32⟩
  | .hbm, ⟨29, _⟩ => ⟨S50000, .f32⟩
  | .hbm, ⟨30, _⟩ => ⟨S_, .f32⟩
  | .hbm, ⟨31, _⟩ => ⟨S_, .f32⟩
  | .hbm, ⟨32, _⟩ => ⟨S51200, .f32⟩
  | .hbm, ⟨33, _⟩ => ⟨S16x3200, .f32⟩
  | .hbm, ⟨34, _⟩ => ⟨S50000, .f32⟩
  | .hbm, ⟨35, _⟩ => ⟨S_, .f32⟩
  | .hbm, ⟨36, _⟩ => ⟨S_, .f32⟩
  | .hbm, ⟨37, _⟩ => ⟨S51200, .f32⟩
  | .hbm, ⟨38, _⟩ => ⟨S16x3200, .f32⟩
  | .hbm, ⟨39, _⟩ => ⟨S_, .f32⟩
  | .hbm, ⟨40, _⟩ => ⟨S50000, .f32⟩
  | .hbm, ⟨41, _⟩ => ⟨S_, .f32⟩
  | .hbm, ⟨42, _⟩ => ⟨S_, .f32⟩
  | .hbm, ⟨43, _⟩ => ⟨S51200, .f32⟩
  | .hbm, ⟨44, _⟩ => ⟨S16x3200, .f32⟩
  | .hbm, ⟨45, _⟩ => ⟨S_, .i32⟩
  | .hbm, ⟨46, _⟩ => ⟨S_, .i32⟩
  | .hbm, ⟨47, _⟩ => ⟨S51200, .i32⟩
  | .hbm, ⟨48, _⟩ => ⟨S16x3200, .i32⟩
  | .hbm, ⟨49, _⟩ => ⟨S_, .i32⟩
  | .hbm, ⟨50, _⟩ => ⟨S_, .f32⟩
  | .hbm, ⟨51, _⟩ => ⟨S32, .f32⟩
  | .hbm, ⟨52, _⟩ => ⟨S32x1, .f32⟩
  | .hbm, ⟨53, _⟩ => ⟨S1x1, .f32⟩
  | .hbm, ⟨54, _⟩ => ⟨S_, .f32⟩
  | .local _ .vmem, ⟨0, _⟩ => ⟨S256x3, .f32⟩
  | .local _ .vmem, ⟨1, _⟩ => ⟨S3x51200, .f32⟩
  | .local _ .vmem, ⟨2, _⟩ => ⟨S16x3200, .f32⟩
  | .local _ .vmem, ⟨3, _⟩ => ⟨S16x3200, .f32⟩
  | .local _ .vmem, ⟨4, _⟩ => ⟨S16x3200, .f32⟩
  | .local _ .vmem, ⟨5, _⟩ => ⟨S16x3200, .f32⟩
  | .local _ .vmem, ⟨6, _⟩ => ⟨S16x3200, .i32⟩
  | .local _ .vmem, ⟨7, _⟩ => ⟨S16x3200, .f32⟩
  | .local _ .vmem, ⟨8, _⟩ => ⟨S16x3200, .f32⟩
  | .local _ .vmem, ⟨9, _⟩ => ⟨S32x1, .f32⟩
  | .local _ .vmem, ⟨10, _⟩ => ⟨S1x1, .f32⟩
  | .local _ .vmem, ⟨11, _⟩ => ⟨S16x3200, .f32⟩
  | _, _ => ⟨S256x3, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | _, _ => false

abbrev semScoped : Fin 0 → Bool
  | ⟨_, h⟩ => absurd h (Nat.not_lt_zero _)

abbrev dmaSemScoped : Fin 11 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | _ => false

abbrev sig : RefSig :=
  ofTc nBuf bufTy 0 11 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_call0_cst : Ref sig .tc := ⟨.hbm, 9, rfl⟩
abbrev main_call0_v0 : Ref sig .tc := ⟨.hbm, 10, rfl⟩
abbrev main_call0_v1 : Ref sig .tc := ⟨.hbm, 11, rfl⟩
abbrev main_call0_v2 : Ref sig .tc := ⟨.hbm, 12, rfl⟩
abbrev main_call0_v3 : Ref sig .tc := ⟨.hbm, 13, rfl⟩
abbrev main_call0_c : Ref sig .tc := ⟨.hbm, 14, rfl⟩
abbrev main_call0_call0_v0 : Ref sig .tc := ⟨.hbm, 15, rfl⟩
abbrev main_call0_v4 : Ref sig .tc := ⟨.hbm, 16, rfl⟩
abbrev main_call0_cst_0 : Ref sig .tc := ⟨.hbm, 17, rfl⟩
abbrev main_call0_call1_v0 : Ref sig .tc := ⟨.hbm, 18, rfl⟩
abbrev main_call0_v5 : Ref sig .tc := ⟨.hbm, 19, rfl⟩
abbrev main_call0_v6 : Ref sig .tc := ⟨.hbm, 20, rfl⟩
abbrev main_call0_cst_1 : Ref sig .tc := ⟨.hbm, 21, rfl⟩
abbrev main_call0_call2_v0 : Ref sig .tc := ⟨.hbm, 22, rfl⟩
abbrev main_call0_v7 : Ref sig .tc := ⟨.hbm, 23, rfl⟩
abbrev main_call0_v8 : Ref sig .tc := ⟨.hbm, 24, rfl⟩
abbrev main_call0_cst_2 : Ref sig .tc := ⟨.hbm, 25, rfl⟩
abbrev main_call0_call3_v0 : Ref sig .tc := ⟨.hbm, 26, rfl⟩
abbrev main_call0_v9 : Ref sig .tc := ⟨.hbm, 27, rfl⟩
abbrev main_call0_v10 : Ref sig .tc := ⟨.hbm, 28, rfl⟩
abbrev main_call0_v11 : Ref sig .tc := ⟨.hbm, 29, rfl⟩
abbrev main_call0_cst_3 : Ref sig .tc := ⟨.hbm, 30, rfl⟩
abbrev main_call0_call4_v0 : Ref sig .tc := ⟨.hbm, 31, rfl⟩
abbrev main_call0_v12 : Ref sig .tc := ⟨.hbm, 32, rfl⟩
abbrev main_call0_v13 : Ref sig .tc := ⟨.hbm, 33, rfl⟩
abbrev main_call0_v14 : Ref sig .tc := ⟨.hbm, 34, rfl⟩
abbrev main_call0_cst_4 : Ref sig .tc := ⟨.hbm, 35, rfl⟩
abbrev main_call0_call5_v0 : Ref sig .tc := ⟨.hbm, 36, rfl⟩
abbrev main_call0_v15 : Ref sig .tc := ⟨.hbm, 37, rfl⟩
abbrev main_call0_v16 : Ref sig .tc := ⟨.hbm, 38, rfl⟩
abbrev main_call0_cst_5 : Ref sig .tc := ⟨.hbm, 39, rfl⟩
abbrev main_call0_v17 : Ref sig .tc := ⟨.hbm, 40, rfl⟩
abbrev main_call0_cst_6 : Ref sig .tc := ⟨.hbm, 41, rfl⟩
abbrev main_call0_call6_v0 : Ref sig .tc := ⟨.hbm, 42, rfl⟩
abbrev main_call0_v18 : Ref sig .tc := ⟨.hbm, 43, rfl⟩
abbrev main_call0_v19 : Ref sig .tc := ⟨.hbm, 44, rfl⟩
abbrev main_call0_c_7 : Ref sig .tc := ⟨.hbm, 45, rfl⟩
abbrev main_call0_call7_v0 : Ref sig .tc := ⟨.hbm, 46, rfl⟩
abbrev main_call0_v20 : Ref sig .tc := ⟨.hbm, 47, rfl⟩
abbrev main_call0_v21 : Ref sig .tc := ⟨.hbm, 48, rfl⟩
abbrev main_call0_c_8 : Ref sig .tc := ⟨.hbm, 49, rfl⟩
abbrev main_call0_call8_v0 : Ref sig .tc := ⟨.hbm, 50, rfl⟩
abbrev main_call0_v22 : Ref sig .tc := ⟨.hbm, 51, rfl⟩
abbrev main_call0_v23 : Ref sig .tc := ⟨.hbm, 52, rfl⟩
abbrev main_call0_v24 : Ref sig .tc := ⟨.hbm, 53, rfl⟩
abbrev main_v0 : Ref sig .tc := ⟨.hbm, 54, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg3_0 : Ref sig .tc := ⟨.vmem, 3, rfl⟩
abbrev cc0_stg4_0 : Ref sig .tc := ⟨.vmem, 4, rfl⟩
abbrev cc0_stg5_0 : Ref sig .tc := ⟨.vmem, 5, rfl⟩
abbrev cc0_stg6_0 : Ref sig .tc := ⟨.vmem, 6, rfl⟩
abbrev cc0_stg7_0 : Ref sig .tc := ⟨.vmem, 7, rfl⟩
abbrev cc0_stg8_0 : Ref sig .tc := ⟨.vmem, 8, rfl⟩
abbrev cc0_stg9_0 : Ref sig .tc := ⟨.vmem, 9, rfl⟩
abbrev cc0_stg10_0 : Ref sig .tc := ⟨.vmem, 10, rfl⟩
abbrev cc0_scratch0 : Ref sig .tc := ⟨.vmem, 11, rfl⟩
abbrev cc0_sem0_0 : DmaSem sig := 0
abbrev cc0_sem1_0 : DmaSem sig := 1
abbrev cc0_sem2_0 : DmaSem sig := 2
abbrev cc0_sem3_0 : DmaSem sig := 3
abbrev cc0_sem4_0 : DmaSem sig := 4
abbrev cc0_sem5_0 : DmaSem sig := 5
abbrev cc0_sem6_0 : DmaSem sig := 6
abbrev cc0_sem7_0 : DmaSem sig := 7
abbrev cc0_sem8_0 : DmaSem sig := 8
abbrev cc0_sem9_0 : DmaSem sig := 9
abbrev cc0_sem10_0 : DmaSem sig := 10

abbrev nD : Nat := 1
abbrev τ : Topo := Topo.v7x

variable {F : FTy → Type} [FloatOps F]

abbrev grid0 : Pipeline.Grid := .none

abbrev stage0_0 : Fin 1 → Memref sig .tc .vmem S256x3 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))

abbrev stage0_1 : Fin 1 → Memref sig .tc .vmem S3x51200 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))

abbrev stage0_2 : Fin 1 → Memref sig .tc .vmem S16x3200 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))

abbrev stage0_3 : Fin 1 → Memref sig .tc .vmem S16x3200 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))

abbrev stage0_4 : Fin 1 → Memref sig .tc .vmem S16x3200 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))

abbrev stage0_5 : Fin 1 → Memref sig .tc .vmem S16x3200 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))

abbrev stage0_6 : Fin 1 → Memref sig .tc .vmem S16x3200 .i32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))

abbrev stage0_7 : Fin 1 → Memref sig .tc .vmem S16x3200 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))

abbrev stage0_8 : Fin 1 → Memref sig .tc .vmem S16x3200 .f32 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))

abbrev stage0_9 : Fin 1 → Memref sig .tc .vmem S32x1 .f32 := fun | 0 => Memref.whole cc0_stg9_0 | ⟨_ + 1, h⟩ => absurd h (Nat.not_lt.2 (Nat.le_add_left _ _))
abbrev sem0_9 : Fin 1 → DmaSem sig := fun | 0 => cc0_sem9_0 | ⟨_ + 1, h⟩ => absurd h (Nat.not_lt.2 (Nat.le_add_left _ _))

abbrev stage0_10 : Fin 1 → Memref sig .tc .vmem S1x1 .f32 := fun | 0 => Memref.whole cc0_stg10_0 | ⟨_ + 1, h⟩ => absurd h (Nat.not_lt.2 (Nat.le_add_left _ _))
abbrev sem0_10 : Fin 1 → DmaSem sig := fun | 0 => cc0_sem10_0 | ⟨_ + 1, h⟩ => absurd h (Nat.not_lt.2 (Nat.le_add_left _ _))
-- ==== KernelIdeal.lean ====
variable {F : FTy → Type} [FloatOps F] [Named F]
def κ : String → Option EReal := fun
  | "taylor_10" => some ((-1 / 3628800 : ℝ) : EReal)
  | "taylor_11" => some ((-1 / 39916800 : ℝ) : EReal)
  | "taylor_12" => some ((1 / 479001600 : ℝ) : EReal)
  | "taylor_13" => some ((1 / 6227020800 : ℝ) : EReal)
  | "taylor_14" => some ((-1 / 87178291200 : ℝ) : EReal)
  | "taylor_3" => some ((-1 / 6 : ℝ) : EReal)
  | "taylor_4" => some ((1 / 24 : ℝ) : EReal)
  | "taylor_5" => some ((1 / 120 : ℝ) : EReal)
  | "taylor_6" => some ((-1 / 720 : ℝ) : EReal)
  | "taylor_7" => some ((-1 / 5040 : ℝ) : EReal)
  | "taylor_8" => some ((1 / 40320 : ℝ) : EReal)
  | "taylor_9" => some ((1 / 362880 : ℝ) : EReal)
  | "two_pi" => some ((2 * Real.pi : ℝ) : EReal)
  | _ => none
-- ==== ReferenceIdeal.lean ====
abbrev S256x3 : Shape := ⟨2, ![256, 3]⟩
abbrev S50000 : Shape := ⟨1, ![50000]⟩
abbrev S20 : Shape := ⟨1, ![20]⟩
abbrev S50000x3 : Shape := ⟨2, ![50000, 3]⟩
abbrev S_ : Shape := ⟨0, ![]⟩
abbrev S3x256 : Shape := ⟨2, ![3, 256]⟩
abbrev S50000x256 : Shape := ⟨2, ![50000, 256]⟩
abbrev S50000x1 : Shape := ⟨2, ![50000, 1]⟩

abbrev nBuf : Space → Nat
  | .hbm => 401
  | .vmem => 0
  | .smem => 0
  | _ => 0

abbrev hbmTy0_0 (i : Nat) : BufTy := match i % 128 with
  | 0 => ⟨S256x3, .f32⟩
  | 1 => ⟨S50000, .f32⟩
  | 2 => ⟨S50000, .f32⟩
  | 3 => ⟨S50000, .f32⟩
  | 4 => ⟨S20, .f32⟩
  | 5 => ⟨S50000, .i1⟩
  | 6 => ⟨S50000, .i32⟩
  | 7 => ⟨S50000x3, .i32⟩
  | 8 => ⟨S50000, .i1⟩
  | 9 => ⟨S_, .f32⟩
  | 10 => ⟨S256x3, .f32⟩
  | 11 => ⟨S256x3, .f32⟩
  | 12 => ⟨S50000x3, .f32⟩
  | 13 => ⟨S3x256, .f32⟩
  | 14 => ⟨S50000x256, .f32⟩
  | 15 => ⟨S_, .f32⟩
  | 16 => ⟨S_, .f32⟩
  | 17 => ⟨S_, .f32⟩
  | 18 => ⟨S_, .f32⟩
  | 19 => ⟨S50000x256, .f32⟩
  | 20 => ⟨S50000x256, .f32⟩
  | 21 => ⟨S_, .f32⟩
  | 22 => ⟨S50000x256, .f32⟩
  | 23 => ⟨S50000x256, .f32⟩
  | 24 => ⟨S_, .f32⟩
  | 25 => ⟨S50000x256, .f32⟩
  | 26 => ⟨S50000x256, .f32⟩
  | 27 => ⟨S50000x256, .f32⟩
  | 28 => ⟨S50000x256, .f32⟩
  | 29 => ⟨S_, .f32⟩
  | 30 => ⟨S50000x256, .f32⟩
  | 31 => ⟨S50000x256, .f32⟩
  | 32 => ⟨S50000x256, .f32⟩
  | 33 => ⟨S50000x256, .f32⟩
  | 34 => ⟨S50000x256, .f32⟩
  | 35 => ⟨S50000x256, .f32⟩
  | 36 => ⟨S_, .f32⟩
  | 37 => ⟨S50000x256, .f32⟩
  | 38 => ⟨S50000x256, .f32⟩
  | 39 => ⟨S50000x256, .f32⟩
  | 40 => ⟨S50000x256, .f32⟩
  | 41 => ⟨S50000x256, .f32⟩
  | 42 => ⟨S50000x256, .f32⟩
  | 43 => ⟨S_, .f32⟩
  | 44 => ⟨S50000x256, .f32⟩
  | 45 => ⟨S50000x256, .f32⟩
  | 46 => ⟨S50000x256, .f32⟩
  | 47 => ⟨S50000x256, .f32⟩
  | 48 => ⟨S50000x256, .f32⟩
  | 49 => ⟨S50000x256, .f32⟩
  | 50 => ⟨S_, .f32⟩
  | 51 => ⟨S50000x256, .f32⟩
  | 52 => ⟨S50000x256, .f32⟩
  | 53 => ⟨S50000x256, .f32⟩
  | 54 => ⟨S50000x256, .f32⟩
  | 55 => ⟨S50000x256, .f32⟩
  | 56 => ⟨S50000x256, .f32⟩
  | 57 => ⟨S_, .f32⟩
  | 58 => ⟨S50000x256, .f32⟩
  | 59 => ⟨S50000x256, .f32⟩
  | 60 => ⟨S50000x256, .f32⟩
  | 61 => ⟨S50000x256, .f32⟩
  | 62 => ⟨S50000x256, .f32⟩
  | 63 => ⟨S50000x256, .f32⟩
  | 64 => ⟨S_, .f32⟩
  | 65 => ⟨S50000x256, .f32⟩
  | 66 => ⟨S50000x256, .f32⟩
  | 67 => ⟨S50000x256, .f32⟩
  | 68 => ⟨S50000x256, .f32⟩
  | 69 => ⟨S50000x256, .f32⟩
  | 70 => ⟨S50000x256, .f32⟩
  | 71 => ⟨S_, .f32⟩
  | 72 => ⟨S50000x256, .f32⟩
  | 73 => ⟨S50000x256, .f32⟩
  | 74 => ⟨S50000x256, .f32⟩
  | 75 => ⟨S_, .f32⟩
  | 76 => ⟨S50000, .f32⟩
  | 77 => ⟨S50000x256, .f32⟩
  | 78 => ⟨S50000x256, .f32⟩
  | 79 => ⟨S50000x256, .f32⟩
  | 80 => ⟨S_, .f32⟩
  | 81 => ⟨S50000x256, .f32⟩
  | 82 => ⟨S50000x256, .f32⟩
  | 83 => ⟨S50000x256, .f32⟩
  | 84 => ⟨S50000x256, .f32⟩
  | 85 => ⟨S50000x256, .f32⟩
  | 86 => ⟨S50000x256, .f32⟩
  | 87 => ⟨S_, .f32⟩
  | 88 => ⟨S50000x256, .f32⟩
  | 89 => ⟨S50000x256, .f32⟩
  | 90 => ⟨S50000x256, .f32⟩
  | 91 => ⟨S50000x256, .f32⟩
  | 92 => ⟨S50000x256, .f32⟩
  | 93 => ⟨S50000x256, .f32⟩
  | 94 => ⟨S_, .f32⟩
  | 95 => ⟨S50000x256, .f32⟩
  | 96 => ⟨S50000x256, .f32⟩
  | 97 => ⟨S50000x256, .f32⟩
  | 98 => ⟨S50000x256, .f32⟩
  | 99 => ⟨S50000x256, .f32⟩
  | 100 => ⟨S50000x256, .f32⟩
  | 101 => ⟨S_, .f32⟩
  | 102 => ⟨S50000x256, .f32⟩
  | 103 => ⟨S50000x256, .f32⟩
  | 104 => ⟨S50000x256, .f32⟩
  | 105 => ⟨S50000x256, .f32⟩
  | 106 => ⟨S50000x256, .f32⟩
  | 107 => ⟨S50000x256, .f32⟩
  | 108 => ⟨S_, .f32⟩
  | 109 => ⟨S50000x256, .f32⟩
  | 110 => ⟨S50000x256, .f32⟩
  | 111 => ⟨S50000x256, .f32⟩
  | 112 => ⟨S50000x256, .f32⟩
  | 113 => ⟨S50000x256, .f32⟩
  | 114 => ⟨S50000x256, .f32⟩
  | 115 => ⟨S_, .f32⟩
  | 116 => ⟨S50000x256, .f32⟩
  | 117 => ⟨S50000x256, .f32⟩
  | 118 => ⟨S50000x256, .f32⟩
  | 119 => ⟨S_, .f32⟩
  | 120 => ⟨S50000, .f32⟩
  | 121 => ⟨S50000, .f32⟩
  | 122 => ⟨S50000, .f32⟩
  | 123 => ⟨S50000, .f32⟩
  | 124 => ⟨S_, .f32⟩
  | 125 => ⟨S50000, .f32⟩
  | 126 => ⟨S50000, .f32⟩
  | 127 => ⟨S50000, .f32⟩
  | _ => ⟨S256x3, .f32⟩

abbrev hbmTy0_1 (i : Nat) : BufTy := match i % 128 with
  | 0 => ⟨S50000, .f32⟩
  | 1 => ⟨S50000, .f32⟩
  | 2 => ⟨S_, .f32⟩
  | 3 => ⟨S20, .f32⟩
  | 4 => ⟨S50000x1, .i32⟩
  | 5 => ⟨S20, .f32⟩
  | 6 => ⟨S_, .f32⟩
  | 7 => ⟨S50000, .f32⟩
  | 8 => ⟨S_, .f32⟩
  | 9 => ⟨S20, .f32⟩
  | 10 => ⟨S50000x1, .i32⟩
  | 11 => ⟨S20, .f32⟩
  | 12 => ⟨S_, .f32⟩
  | 13 => ⟨S20, .f32⟩
  | 14 => ⟨S20, .f32⟩
  | 15 => ⟨S20, .f32⟩
  | 16 => ⟨S_, .i32⟩
  | 17 => ⟨S50000, .i32⟩
  | 18 => ⟨S50000, .i1⟩
  | 19 => ⟨S_, .i32⟩
  | 20 => ⟨S50000, .i32⟩
  | 21 => ⟨S50000, .i32⟩
  | 22 => ⟨S50000, .i32⟩
  | 23 => ⟨S50000x1, .i32⟩
  | 24 => ⟨S50000, .f32⟩
  | 25 => ⟨S50000, .f32⟩
  | 26 => ⟨S50000, .f32⟩
  | 27 => ⟨S50000, .f32⟩
  | 28 => ⟨S_, .f32⟩
  | 29 => ⟨S_, .f32⟩
  | 30 => ⟨S_, .f32⟩
  | 31 => ⟨S20, .f32⟩
  | 32 => ⟨S20, .f32⟩
  | 33 => ⟨S_, .f32⟩
  | 34 => ⟨S20, .f32⟩
  | 35 => ⟨S20, .f32⟩
  | 36 => ⟨S_, .i32⟩
  | 37 => ⟨S50000, .i32⟩
  | 38 => ⟨S50000, .i1⟩
  | 39 => ⟨S_, .i32⟩
  | 40 => ⟨S50000, .i32⟩
  | 41 => ⟨S50000, .i32⟩
  | 42 => ⟨S50000, .i32⟩
  | 43 => ⟨S50000x1, .i32⟩
  | 44 => ⟨S50000, .f32⟩
  | 45 => ⟨S50000, .f32⟩
  | 46 => ⟨S50000, .f32⟩
  | 47 => ⟨S_, .f32⟩
  | 48 => ⟨S50000, .f32⟩
  | 49 => ⟨S50000, .f32⟩
  | 50 => ⟨S_, .f32⟩
  | 51 => ⟨S50000, .f32⟩
  | 52 => ⟨S50000, .f32⟩
  | 53 => ⟨S50000, .f32⟩
  | 54 => ⟨S50000, .f32⟩
  | 55 => ⟨S50000, .f32⟩
  | 56 => ⟨S50000, .f32⟩
  | 57 => ⟨S50000, .f32⟩
  | 58 => ⟨S50000, .f32⟩
  | 59 => ⟨S50000, .f32⟩
  | 60 => ⟨S50000, .f32⟩
  | 61 => ⟨S50000, .f32⟩
  | 62 => ⟨S50000, .f32⟩
  | 63 => ⟨S50000, .f32⟩
  | 64 => ⟨S50000, .f32⟩
  | 65 => ⟨S50000, .f32⟩
  | 66 => ⟨S_, .f32⟩
  | 67 => ⟨S50000, .f32⟩
  | 68 => ⟨S50000, .f32⟩
  | 69 => ⟨S_, .f32⟩
  | 70 => ⟨S50000, .f32⟩
  | 71 => ⟨S_, .f32⟩
  | 72 => ⟨S50000, .f32⟩
  | 73 => ⟨S50000, .f32⟩
  | 74 => ⟨S_, .f32⟩
  | 75 => ⟨S50000, .f32⟩
  | 76 => ⟨S50000, .f32⟩
  | 77 => ⟨S_, .f32⟩
  | 78 => ⟨S50000, .f32⟩
  | 79 => ⟨S50000, .f32⟩
  | 80 => ⟨S50000, .f32⟩
  | 81 => ⟨S_, .f32⟩
  | 82 => ⟨S50000, .f32⟩
  | 83 => ⟨S50000, .f32⟩
  | 84 => ⟨S50000, .f32⟩
  | 85 => ⟨S_, .f32⟩
  | 86 => ⟨S50000, .f32⟩
  | 87 => ⟨S50000, .f32⟩
  | 88 => ⟨S50000, .f32⟩
  | 89 => ⟨S50000, .f32⟩
  | 90 => ⟨S_, .f32⟩
  | 91 => ⟨S50000, .f32⟩
  | 92 => ⟨S50000, .f32⟩
  | 93 => ⟨S50000, .f32⟩
  | 94 => ⟨S_, .f32⟩
  | 95 => ⟨S50000, .f32⟩
  | 96 => ⟨S50000, .f32⟩
  | 97 => ⟨S50000, .f32⟩
  | 98 => ⟨S50000, .f32⟩
  | 99 => ⟨S50000, .f32⟩
  | 100 => ⟨S_, .f32⟩
  | 101 => ⟨S50000, .f32⟩
  | 102 => ⟨S50000, .f32⟩
  | 103 => ⟨S50000, .f32⟩
  | 104 => ⟨S_, .f32⟩
  | 105 => ⟨S50000, .f32⟩
  | 106 => ⟨S50000, .f32⟩
  | 107 => ⟨S50000, .f32⟩
  | 108 => ⟨S50000, .f32⟩
  | 109 => ⟨S50000, .f32⟩
  | 110 => ⟨S_, .f32⟩
  | 111 => ⟨S50000, .f32⟩
  | 112 => ⟨S50000, .f32⟩
  | 113 => ⟨S50000, .f32⟩
  | 114 => ⟨S_, .f32⟩
  | 115 => ⟨S50000, .f32⟩
  | 116 => ⟨S50000, .f32⟩
  | 117 => ⟨S50000, .f32⟩
  | 118 => ⟨S50000, .f32⟩
  | 119 => ⟨S50000, .f32⟩
  | 120 => ⟨S50000, .f32⟩
  | 121 => ⟨S_, .f32⟩
  | 122 => ⟨S50000, .f32⟩
  | 123 => ⟨S50000, .f32⟩
  | 124 => ⟨S50000, .f32⟩
  | 125 => ⟨S_, .f32⟩
  | 126 => ⟨S50000, .f32⟩
  | 127 => ⟨S50000, .f32⟩
  | _ => ⟨S256x3, .f32⟩

abbrev hbmTy0_2 (i : Nat) : BufTy := match i % 128 with
  | 0 => ⟨S50000, .f32⟩
  | 1 => ⟨S50000, .f32⟩
  | 2 => ⟨S50000, .f32⟩
  | 3 => ⟨S50000, .f32⟩
  | 4 => ⟨S_, .f32⟩
  | 5 => ⟨S50000, .f32⟩
  | 6 => ⟨S50000, .f32⟩
  | 7 => ⟨S50000, .f32⟩
  | 8 => ⟨S_, .f32⟩
  | 9 => ⟨S50000, .f32⟩
  | 10 => ⟨S50000, .f32⟩
  | 11 => ⟨S_, .f32⟩
  | 12 => ⟨S50000, .f32⟩
  | 13 => ⟨S_, .f32⟩
  | 14 => ⟨S50000, .f32⟩
  | 15 => ⟨S50000, .f32⟩
  | 16 => ⟨S_, .f32⟩
  | 17 => ⟨S50000, .f32⟩
  | 18 => ⟨S50000, .f32⟩
  | 19 => ⟨S_, .f32⟩
  | 20 => ⟨S50000, .f32⟩
  | 21 => ⟨S50000, .f32⟩
  | 22 => ⟨S_, .f32⟩
  | 23 => ⟨S50000, .f32⟩
  | 24 => ⟨S50000, .f32⟩
  | 25 => ⟨S50000, .f32⟩
  | 26 => ⟨S_, .f32⟩
  | 27 => ⟨S50000, .f32⟩
  | 28 => ⟨S50000, .f32⟩
  | 29 => ⟨S50000, .f32⟩
  | 30 => ⟨S_, .f32⟩
  | 31 => ⟨S50000, .f32⟩
  | 32 => ⟨S50000, .f32⟩
  | 33 => ⟨S50000, .f32⟩
  | 34 => ⟨S_, .f32⟩
  | 35 => ⟨S50000, .f32⟩
  | 36 => ⟨S50000, .f32⟩
  | 37 => ⟨S50000, .f32⟩
  | 38 => ⟨S50000, .f32⟩
  | 39 => ⟨S_, .f32⟩
  | 40 => ⟨S50000, .f32⟩
  | 41 => ⟨S50000, .f32⟩
  | 42 => ⟨S50000, .f32⟩
  | 43 => ⟨S_, .f32⟩
  | 44 => ⟨S50000, .f32⟩
  | 45 => ⟨S50000, .f32⟩
  | 46 => ⟨S50000, .f32⟩
  | 47 => ⟨S50000, .f32⟩
  | 48 => ⟨S_, .f32⟩
  | 49 => ⟨S50000, .f32⟩
  | 50 => ⟨S50000, .f32⟩
  | 51 => ⟨S50000, .f32⟩
  | 52 => ⟨S_, .f32⟩
  | 53 => ⟨S50000, .f32⟩
  | 54 => ⟨S50000, .f32⟩
  | 55 => ⟨S50000, .f32⟩
  | 56 => ⟨S50000, .f32⟩
  | 57 => ⟨S50000, .f32⟩
  | 58 => ⟨S_, .f32⟩
  | 59 => ⟨S50000, .f32⟩
  | 60 => ⟨S50000, .f32⟩
  | 61 => ⟨S50000, .f32⟩
  | 62 => ⟨S_, .f32⟩
  | 63 => ⟨S50000, .f32⟩
  | 64 => ⟨S50000, .f32⟩
  | 65 => ⟨S50000, .f32⟩
  | 66 => ⟨S50000, .f32⟩
  | 67 => ⟨S50000, .f32⟩
  | 68 => ⟨S_, .f32⟩
  | 69 => ⟨S50000, .f32⟩
  | 70 => ⟨S50000, .f32⟩
  | 71 => ⟨S50000, .f32⟩
  | 72 => ⟨S_, .f32⟩
  | 73 => ⟨S50000, .f32⟩
  | 74 => ⟨S50000, .f32⟩
  | 75 => ⟨S50000, .f32⟩
  | 76 => ⟨S50000, .f32⟩
  | 77 => ⟨S50000, .f32⟩
  | 78 => ⟨S50000, .f32⟩
  | 79 => ⟨S_, .f32⟩
  | 80 => ⟨S50000, .f32⟩
  | 81 => ⟨S50000, .f32⟩
  | 82 => ⟨S50000, .f32⟩
  | 83 => ⟨S_, .f32⟩
  | 84 => ⟨S50000, .f32⟩
  | 85 => ⟨S50000, .f32⟩
  | 86 => ⟨S50000, .f32⟩
  | 87 => ⟨S50000, .f32⟩
  | 88 => ⟨S50000, .f32⟩
  | 89 => ⟨S_, .f32⟩
  | 90 => ⟨S50000, .f32⟩
  | 91 => ⟨S50000, .f32⟩
  | 92 => ⟨S50000, .f32⟩
  | 93 => ⟨S_, .f32⟩
  | 94 => ⟨S50000, .f32⟩
  | 95 => ⟨S50000, .i1⟩
  | 96 => ⟨S50000, .f32⟩
  | 97 => ⟨S50000, .f32⟩
  | 98 => ⟨S50000, .f32⟩
  | 99 => ⟨S50000, .f32⟩
  | 100 => ⟨S50000, .f32⟩
  | 101 => ⟨S50000, .f32⟩
  | 102 => ⟨S50000, .f32⟩
  | 103 => ⟨S50000, .f32⟩
  | 104 => ⟨S50000, .f32⟩
  | 105 => ⟨S50000, .f32⟩
  | 106 => ⟨S50000, .f32⟩
  | 107 => ⟨S50000, .f32⟩
  | 108 => ⟨S50000, .f32⟩
  | 109 => ⟨S50000, .f32⟩
  | 110 => ⟨S50000, .f32⟩
  | 111 => ⟨S50000, .f32⟩
  | 112 => ⟨S50000, .i1⟩
  | 113 => ⟨S50000, .f32⟩
  | 114 => ⟨S50000, .f32⟩
  | 115 => ⟨S50000, .f32⟩
  | 116 => ⟨S50000, .f32⟩
  | 117 => ⟨S50000, .f32⟩
  | 118 => ⟨S50000, .f32⟩
  | 119 => ⟨S50000, .f32⟩
  | 120 => ⟨S_, .f32⟩
  | 121 => ⟨S_, .f32⟩
  | 122 => ⟨S_, .f32⟩
  | 123 => ⟨S50000, .f32⟩
  | 124 => ⟨S50000, .f32⟩
  | 125 => ⟨S50000, .f32⟩
  | 126 => ⟨S_, .f32⟩
  | 127 => ⟨S50000, .f32⟩
  | _ => ⟨S256x3, .f32⟩

abbrev hbmTy0_3 (i : Nat) : BufTy := match i % 128 with
  | 0 => ⟨S50000, .f32⟩
  | 1 => ⟨S50000, .f32⟩
  | 2 => ⟨S50000, .f32⟩
  | 3 => ⟨S50000, .f32⟩
  | 4 => ⟨S50000, .f32⟩
  | 5 => ⟨S50000, .f32⟩
  | 6 => ⟨S_, .f32⟩
  | 7 => ⟨S50000, .f32⟩
  | 8 => ⟨S50000, .f32⟩
  | 9 => ⟨S50000, .f32⟩
  | 10 => ⟨S50000, .f32⟩
  | 11 => ⟨S50000, .f32⟩
  | 12 => ⟨S50000, .f32⟩
  | 13 => ⟨S50000, .f32⟩
  | 14 => ⟨S50000, .f32⟩
  | 15 => ⟨S_, .f32⟩
  | 16 => ⟨S_, .f32⟩
  | _ => ⟨S256x3, .f32⟩

abbrev hbmTy (i : Nat) : BufTy := match i / 128 with
  | 0 => hbmTy0_0 i
  | 1 => hbmTy0_1 i
  | 2 => hbmTy0_2 i
  | 3 => hbmTy0_3 i
  | _ => ⟨S256x3, .f32⟩

abbrev bufTy : (tb : Table) → Fin (tcTables nBuf tb) → BufTy
  | .hbm, ⟨i, _⟩ => hbmTy i
  | _, _ => ⟨S256x3, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_cst : Ref sig .tc := ⟨.hbm, 9, rfl⟩
abbrev main_v0 : Ref sig .tc := ⟨.hbm, 10, rfl⟩
abbrev main_v1 : Ref sig .tc := ⟨.hbm, 11, rfl⟩
abbrev main_v2 : Ref sig .tc := ⟨.hbm, 12, rfl⟩
abbrev main_v3 : Ref sig .tc := ⟨.hbm, 13, rfl⟩
abbrev main_v4 : Ref sig .tc := ⟨.hbm, 14, rfl⟩
abbrev main_cst_0 : Ref sig .tc := ⟨.hbm, 15, rfl⟩
abbrev main_v5 : Ref sig .tc := ⟨.hbm, 16, rfl⟩
abbrev main_cst_1 : Ref sig .tc := ⟨.hbm, 17, rfl⟩
abbrev main_v6 : Ref sig .tc := ⟨.hbm, 18, rfl⟩
abbrev main_v7 : Ref sig .tc := ⟨.hbm, 19, rfl⟩
abbrev main_v8 : Ref sig .tc := ⟨.hbm, 20, rfl⟩
abbrev main_v9 : Ref sig .tc := ⟨.hbm, 21, rfl⟩
abbrev main_v10 : Ref sig .tc := ⟨.hbm, 22, rfl⟩
abbrev main_v11 : Ref sig .tc := ⟨.hbm, 23, rfl⟩
abbrev main_cst_2 : Ref sig .tc := ⟨.hbm, 24, rfl⟩
abbrev main_v12 : Ref sig .tc := ⟨.hbm, 25, rfl⟩
abbrev main_v13 : Ref sig .tc := ⟨.hbm, 26, rfl⟩
abbrev main_v14 : Ref sig .tc := ⟨.hbm, 27, rfl⟩
abbrev main_v15 : Ref sig .tc := ⟨.hbm, 28, rfl⟩
abbrev main_cst_3 : Ref sig .tc := ⟨.hbm, 29, rfl⟩
abbrev main_v16 : Ref sig .tc := ⟨.hbm, 30, rfl⟩
abbrev main_v17 : Ref sig .tc := ⟨.hbm, 31, rfl⟩
abbrev main_v18 : Ref sig .tc := ⟨.hbm, 32, rfl⟩
abbrev main_v19 : Ref sig .tc := ⟨.hbm, 33, rfl⟩
abbrev main_v20 : Ref sig .tc := ⟨.hbm, 34, rfl⟩
abbrev main_v21 : Ref sig .tc := ⟨.hbm, 35, rfl⟩
abbrev main_cst_4 : Ref sig .tc := ⟨.hbm, 36, rfl⟩
abbrev main_v22 : Ref sig .tc := ⟨.hbm, 37, rfl⟩
abbrev main_v23 : Ref sig .tc := ⟨.hbm, 38, rfl⟩
abbrev main_v24 : Ref sig .tc := ⟨.hbm, 39, rfl⟩
abbrev main_v25 : Ref sig .tc := ⟨.hbm, 40, rfl⟩
abbrev main_v26 : Ref sig .tc := ⟨.hbm, 41, rfl⟩
abbrev main_v27 : Ref sig .tc := ⟨.hbm, 42, rfl⟩
abbrev main_cst_5 : Ref sig .tc := ⟨.hbm, 43, rfl⟩
abbrev main_v28 : Ref sig .tc := ⟨.hbm, 44, rfl⟩
abbrev main_v29 : Ref sig .tc := ⟨.hbm, 45, rfl⟩
abbrev main_v30 : Ref sig .tc := ⟨.hbm, 46, rfl⟩
abbrev main_v31 : Ref sig .tc := ⟨.hbm, 47, rfl⟩
abbrev main_v32 : Ref sig .tc := ⟨.hbm, 48, rfl⟩
abbrev main_v33 : Ref sig .tc := ⟨.hbm, 49, rfl⟩
abbrev main_cst_6 : Ref sig .tc := ⟨.hbm, 50, rfl⟩
abbrev main_v34 : Ref sig .tc := ⟨.hbm, 51, rfl⟩
abbrev main_v35 : Ref sig .tc := ⟨.hbm, 52, rfl⟩
abbrev main_v36 : Ref sig .tc := ⟨.hbm, 53, rfl⟩
abbrev main_v37 : Ref sig .tc := ⟨.hbm, 54, rfl⟩
abbrev main_v38 : Ref sig .tc := ⟨.hbm, 55, rfl⟩
abbrev main_v39 : Ref sig .tc := ⟨.hbm, 56, rfl⟩
abbrev main_cst_7 : Ref sig .tc := ⟨.hbm, 57, rfl⟩
abbrev main_v40 : Ref sig .tc := ⟨.hbm, 58, rfl⟩
abbrev main_v41 : Ref sig .tc := ⟨.hbm, 59, rfl⟩
abbrev main_v42 : Ref sig .tc := ⟨.hbm, 60, rfl⟩
abbrev main_v43 : Ref sig .tc := ⟨.hbm, 61, rfl⟩
abbrev main_v44 : Ref sig .tc := ⟨.hbm, 62, rfl⟩
abbrev main_v45 : Ref sig .tc := ⟨.hbm, 63, rfl⟩
abbrev main_cst_8 : Ref sig .tc := ⟨.hbm, 64, rfl⟩
abbrev main_v46 : Ref sig .tc := ⟨.hbm, 65, rfl⟩
abbrev main_v47 : Ref sig .tc := ⟨.hbm, 66, rfl⟩
abbrev main_v48 : Ref sig .tc := ⟨.hbm, 67, rfl⟩
abbrev main_v49 : Ref sig .tc := ⟨.hbm, 68, rfl⟩
abbrev main_v50 : Ref sig .tc := ⟨.hbm, 69, rfl⟩
abbrev main_v51 : Ref sig .tc := ⟨.hbm, 70, rfl⟩
abbrev main_cst_9 : Ref sig .tc := ⟨.hbm, 71, rfl⟩
abbrev main_v52 : Ref sig .tc := ⟨.hbm, 72, rfl⟩
abbrev main_v53 : Ref sig .tc := ⟨.hbm, 73, rfl⟩
abbrev main_v54 : Ref sig .tc := ⟨.hbm, 74, rfl⟩
abbrev main_cst_10 : Ref sig .tc := ⟨.hbm, 75, rfl⟩
abbrev main_v55 : Ref sig .tc := ⟨.hbm, 76, rfl⟩
abbrev main_v56 : Ref sig .tc := ⟨.hbm, 77, rfl⟩
abbrev main_v57 : Ref sig .tc := ⟨.hbm, 78, rfl⟩
abbrev main_v58 : Ref sig .tc := ⟨.hbm, 79, rfl⟩
abbrev main_cst_11 : Ref sig .tc := ⟨.hbm, 80, rfl⟩
abbrev main_v59 : Ref sig .tc := ⟨.hbm, 81, rfl⟩
abbrev main_v60 : Ref sig .tc := ⟨.hbm, 82, rfl⟩
abbrev main_v61 : Ref sig .tc := ⟨.hbm, 83, rfl⟩
abbrev main_v62 : Ref sig .tc := ⟨.hbm, 84, rfl⟩
abbrev main_v63 : Ref sig .tc := ⟨.hbm, 85, rfl⟩
abbrev main_v64 : Ref sig .tc := ⟨.hbm, 86, rfl⟩
abbrev main_cst_12 : Ref sig .tc := ⟨.hbm, 87, rfl⟩
abbrev main_v65 : Ref sig .tc := ⟨.hbm, 88, rfl⟩
abbrev main_v66 : Ref sig .tc := ⟨.hbm, 89, rfl⟩
abbrev main_v67 : Ref sig .tc := ⟨.hbm, 90, rfl⟩
abbrev main_v68 : Ref sig .tc := ⟨.hbm, 91, rfl⟩
abbrev main_v69 : Ref sig .tc := ⟨.hbm, 92, rfl⟩
abbrev main_v70 : Ref sig .tc := ⟨.hbm, 93, rfl⟩
abbrev main_cst_13 : Ref sig .tc := ⟨.hbm, 94, rfl⟩
abbrev main_v71 : Ref sig .tc := ⟨.hbm, 95, rfl⟩
abbrev main_v72 : Ref sig .tc := ⟨.hbm, 96, rfl⟩
abbrev main_v73 : Ref sig .tc := ⟨.hbm, 97, rfl⟩
abbrev main_v74 : Ref sig .tc := ⟨.hbm, 98, rfl⟩
abbrev main_v75 : Ref sig .tc := ⟨.hbm, 99, rfl⟩
abbrev main_v76 : Ref sig .tc := ⟨.hbm, 100, rfl⟩
abbrev main_cst_14 : Ref sig .tc := ⟨.hbm, 101, rfl⟩
abbrev main_v77 : Ref sig .tc := ⟨.hbm, 102, rfl⟩
abbrev main_v78 : Ref sig .tc := ⟨.hbm, 103, rfl⟩
abbrev main_v79 : Ref sig .tc := ⟨.hbm, 104, rfl⟩
abbrev main_v80 : Ref sig .tc := ⟨.hbm, 105, rfl⟩
abbrev main_v81 : Ref sig .tc := ⟨.hbm, 106, rfl⟩
abbrev main_v82 : Ref sig .tc := ⟨.hbm, 107, rfl⟩
abbrev main_cst_15 : Ref sig .tc := ⟨.hbm, 108, rfl⟩
abbrev main_v83 : Ref sig .tc := ⟨.hbm, 109, rfl⟩
abbrev main_v84 : Ref sig .tc := ⟨.hbm, 110, rfl⟩
abbrev main_v85 : Ref sig .tc := ⟨.hbm, 111, rfl⟩
abbrev main_v86 : Ref sig .tc := ⟨.hbm, 112, rfl⟩
abbrev main_v87 : Ref sig .tc := ⟨.hbm, 113, rfl⟩
abbrev main_v88 : Ref sig .tc := ⟨.hbm, 114, rfl⟩
abbrev main_cst_16 : Ref sig .tc := ⟨.hbm, 115, rfl⟩
abbrev main_v89 : Ref sig .tc := ⟨.hbm, 116, rfl⟩
abbrev main_v90 : Ref sig .tc := ⟨.hbm, 117, rfl⟩
abbrev main_v91 : Ref sig .tc := ⟨.hbm, 118, rfl⟩
abbrev main_cst_17 : Ref sig .tc := ⟨.hbm, 119, rfl⟩
abbrev main_v92 : Ref sig .tc := ⟨.hbm, 120, rfl⟩
abbrev main_v93 : Ref sig .tc := ⟨.hbm, 121, rfl⟩
abbrev main_v94 : Ref sig .tc := ⟨.hbm, 122, rfl⟩
abbrev main_v95 : Ref sig .tc := ⟨.hbm, 123, rfl⟩
abbrev main_cst_18 : Ref sig .tc := ⟨.hbm, 124, rfl⟩
abbrev main_v96 : Ref sig .tc := ⟨.hbm, 125, rfl⟩
abbrev main_v97 : Ref sig .tc := ⟨.hbm, 126, rfl⟩
abbrev main_v98 : Ref sig .tc := ⟨.hbm, 127, rfl⟩
abbrev main_v99 : Ref sig .tc := ⟨.hbm, 128, rfl⟩
abbrev main_v100 : Ref sig .tc := ⟨.hbm, 129, rfl⟩
abbrev main_cst_19 : Ref sig .tc := ⟨.hbm, 130, rfl⟩
abbrev main_v101 : Ref sig .tc := ⟨.hbm, 131, rfl⟩
abbrev main_v102 : Ref sig .tc := ⟨.hbm, 132, rfl⟩
abbrev main_v103 : Ref sig .tc := ⟨.hbm, 133, rfl⟩
abbrev main_cst_20 : Ref sig .tc := ⟨.hbm, 134, rfl⟩
abbrev main_v104 : Ref sig .tc := ⟨.hbm, 135, rfl⟩
abbrev main_cst_21 : Ref sig .tc := ⟨.hbm, 136, rfl⟩
abbrev main_v105 : Ref sig .tc := ⟨.hbm, 137, rfl⟩
abbrev main_v106 : Ref sig .tc := ⟨.hbm, 138, rfl⟩
abbrev main_v107 : Ref sig .tc := ⟨.hbm, 139, rfl⟩
abbrev main_cst_22 : Ref sig .tc := ⟨.hbm, 140, rfl⟩
abbrev main_v108 : Ref sig .tc := ⟨.hbm, 141, rfl⟩
abbrev main_v109 : Ref sig .tc := ⟨.hbm, 142, rfl⟩
abbrev main_v110 : Ref sig .tc := ⟨.hbm, 143, rfl⟩
abbrev main_c : Ref sig .tc := ⟨.hbm, 144, rfl⟩
abbrev main_v111 : Ref sig .tc := ⟨.hbm, 145, rfl⟩
abbrev main_v112 : Ref sig .tc := ⟨.hbm, 146, rfl⟩
abbrev main_c_23 : Ref sig .tc := ⟨.hbm, 147, rfl⟩
abbrev main_v113 : Ref sig .tc := ⟨.hbm, 148, rfl⟩
abbrev main_v114 : Ref sig .tc := ⟨.hbm, 149, rfl⟩
abbrev main_v115 : Ref sig .tc := ⟨.hbm, 150, rfl⟩
abbrev main_v116 : Ref sig .tc := ⟨.hbm, 151, rfl⟩
abbrev main_v117 : Ref sig .tc := ⟨.hbm, 152, rfl⟩
abbrev main_v118 : Ref sig .tc := ⟨.hbm, 153, rfl⟩
abbrev main_v119 : Ref sig .tc := ⟨.hbm, 154, rfl⟩
abbrev main_v120 : Ref sig .tc := ⟨.hbm, 155, rfl⟩
abbrev main_cst_24 : Ref sig .tc := ⟨.hbm, 156, rfl⟩
abbrev main_cst_25 : Ref sig .tc := ⟨.hbm, 157, rfl⟩
abbrev main_call1_v0 : Ref sig .tc := ⟨.hbm, 158, rfl⟩
abbrev main_call1_v1 : Ref sig .tc := ⟨.hbm, 159, rfl⟩
abbrev main_call1_v2 : Ref sig .tc := ⟨.hbm, 160, rfl⟩
abbrev main_call1_v3 : Ref sig .tc := ⟨.hbm, 161, rfl⟩
abbrev main_call1_v4 : Ref sig .tc := ⟨.hbm, 162, rfl⟩
abbrev main_v121 : Ref sig .tc := ⟨.hbm, 163, rfl⟩
abbrev main_c_26 : Ref sig .tc := ⟨.hbm, 164, rfl⟩
abbrev main_v122 : Ref sig .tc := ⟨.hbm, 165, rfl⟩
abbrev main_v123 : Ref sig .tc := ⟨.hbm, 166, rfl⟩
abbrev main_c_27 : Ref sig .tc := ⟨.hbm, 167, rfl⟩
abbrev main_v124 : Ref sig .tc := ⟨.hbm, 168, rfl⟩
abbrev main_v125 : Ref sig .tc := ⟨.hbm, 169, rfl⟩
abbrev main_v126 : Ref sig .tc := ⟨.hbm, 170, rfl⟩
abbrev main_v127 : Ref sig .tc := ⟨.hbm, 171, rfl⟩
abbrev main_v128 : Ref sig .tc := ⟨.hbm, 172, rfl⟩
abbrev main_v129 : Ref sig .tc := ⟨.hbm, 173, rfl⟩
abbrev main_v130 : Ref sig .tc := ⟨.hbm, 174, rfl⟩
abbrev main_cst_28 : Ref sig .tc := ⟨.hbm, 175, rfl⟩
abbrev main_v131 : Ref sig .tc := ⟨.hbm, 176, rfl⟩
abbrev main_v132 : Ref sig .tc := ⟨.hbm, 177, rfl⟩
abbrev main_cst_29 : Ref sig .tc := ⟨.hbm, 178, rfl⟩
abbrev main_v133 : Ref sig .tc := ⟨.hbm, 179, rfl⟩
abbrev main_v134 : Ref sig .tc := ⟨.hbm, 180, rfl⟩
abbrev main_v135 : Ref sig .tc := ⟨.hbm, 181, rfl⟩
abbrev main_v136 : Ref sig .tc := ⟨.hbm, 182, rfl⟩
abbrev main_v137 : Ref sig .tc := ⟨.hbm, 183, rfl⟩
abbrev main_v138 : Ref sig .tc := ⟨.hbm, 184, rfl⟩
abbrev main_v139 : Ref sig .tc := ⟨.hbm, 185, rfl⟩
abbrev main_v140 : Ref sig .tc := ⟨.hbm, 186, rfl⟩
abbrev main_v141 : Ref sig .tc := ⟨.hbm, 187, rfl⟩
abbrev main_v142 : Ref sig .tc := ⟨.hbm, 188, rfl⟩
abbrev main_v143 : Ref sig .tc := ⟨.hbm, 189, rfl⟩
abbrev main_v144 : Ref sig .tc := ⟨.hbm, 190, rfl⟩
abbrev main_v145 : Ref sig .tc := ⟨.hbm, 191, rfl⟩
abbrev main_v146 : Ref sig .tc := ⟨.hbm, 192, rfl⟩
abbrev main_v147 : Ref sig .tc := ⟨.hbm, 193, rfl⟩
abbrev main_cst_30 : Ref sig .tc := ⟨.hbm, 194, rfl⟩
abbrev main_v148 : Ref sig .tc := ⟨.hbm, 195, rfl⟩
abbrev main_v149 : Ref sig .tc := ⟨.hbm, 196, rfl⟩
abbrev main_cst_31 : Ref sig .tc := ⟨.hbm, 197, rfl⟩
abbrev main_v150 : Ref sig .tc := ⟨.hbm, 198, rfl⟩
abbrev main_cst_32 : Ref sig .tc := ⟨.hbm, 199, rfl⟩
abbrev main_v151 : Ref sig .tc := ⟨.hbm, 200, rfl⟩
abbrev main_v152 : Ref sig .tc := ⟨.hbm, 201, rfl⟩
abbrev main_cst_33 : Ref sig .tc := ⟨.hbm, 202, rfl⟩
abbrev main_v153 : Ref sig .tc := ⟨.hbm, 203, rfl⟩
abbrev main_v154 : Ref sig .tc := ⟨.hbm, 204, rfl⟩
abbrev main_cst_34 : Ref sig .tc := ⟨.hbm, 205, rfl⟩
abbrev main_v155 : Ref sig .tc := ⟨.hbm, 206, rfl⟩
abbrev main_v156 : Ref sig .tc := ⟨.hbm, 207, rfl⟩
abbrev main_v157 : Ref sig .tc := ⟨.hbm, 208, rfl⟩
abbrev main_cst_35 : Ref sig .tc := ⟨.hbm, 209, rfl⟩
abbrev main_v158 : Ref sig .tc := ⟨.hbm, 210, rfl⟩
abbrev main_v159 : Ref sig .tc := ⟨.hbm, 211, rfl⟩
abbrev main_v160 : Ref sig .tc := ⟨.hbm, 212, rfl⟩
abbrev main_cst_36 : Ref sig .tc := ⟨.hbm, 213, rfl⟩
abbrev main_v161 : Ref sig .tc := ⟨.hbm, 214, rfl⟩
abbrev main_v162 : Ref sig .tc := ⟨.hbm, 215, rfl⟩
abbrev main_v163 : Ref sig .tc := ⟨.hbm, 216, rfl⟩
abbrev main_v164 : Ref sig .tc := ⟨.hbm, 217, rfl⟩
abbrev main_cst_37 : Ref sig .tc := ⟨.hbm, 218, rfl⟩
abbrev main_v165 : Ref sig .tc := ⟨.hbm, 219, rfl⟩
abbrev main_v166 : Ref sig .tc := ⟨.hbm, 220, rfl⟩
abbrev main_v167 : Ref sig .tc := ⟨.hbm, 221, rfl⟩
abbrev main_cst_38 : Ref sig .tc := ⟨.hbm, 222, rfl⟩
abbrev main_v168 : Ref sig .tc := ⟨.hbm, 223, rfl⟩
abbrev main_v169 : Ref sig .tc := ⟨.hbm, 224, rfl⟩
abbrev main_v170 : Ref sig .tc := ⟨.hbm, 225, rfl⟩
abbrev main_v171 : Ref sig .tc := ⟨.hbm, 226, rfl⟩
abbrev main_v172 : Ref sig .tc := ⟨.hbm, 227, rfl⟩
abbrev main_cst_39 : Ref sig .tc := ⟨.hbm, 228, rfl⟩
abbrev main_v173 : Ref sig .tc := ⟨.hbm, 229, rfl⟩
abbrev main_v174 : Ref sig .tc := ⟨.hbm, 230, rfl⟩
abbrev main_v175 : Ref sig .tc := ⟨.hbm, 231, rfl⟩
abbrev main_cst_40 : Ref sig .tc := ⟨.hbm, 232, rfl⟩
abbrev main_v176 : Ref sig .tc := ⟨.hbm, 233, rfl⟩
abbrev main_v177 : Ref sig .tc := ⟨.hbm, 234, rfl⟩
abbrev main_v178 : Ref sig .tc := ⟨.hbm, 235, rfl⟩
abbrev main_v179 : Ref sig .tc := ⟨.hbm, 236, rfl⟩
abbrev main_v180 : Ref sig .tc := ⟨.hbm, 237, rfl⟩
abbrev main_cst_41 : Ref sig .tc := ⟨.hbm, 238, rfl⟩
abbrev main_v181 : Ref sig .tc := ⟨.hbm, 239, rfl⟩
abbrev main_v182 : Ref sig .tc := ⟨.hbm, 240, rfl⟩
abbrev main_v183 : Ref sig .tc := ⟨.hbm, 241, rfl⟩
abbrev main_cst_42 : Ref sig .tc := ⟨.hbm, 242, rfl⟩
abbrev main_v184 : Ref sig .tc := ⟨.hbm, 243, rfl⟩
abbrev main_v185 : Ref sig .tc := ⟨.hbm, 244, rfl⟩
abbrev main_v186 : Ref sig .tc := ⟨.hbm, 245, rfl⟩
abbrev main_v187 : Ref sig .tc := ⟨.hbm, 246, rfl⟩
abbrev main_v188 : Ref sig .tc := ⟨.hbm, 247, rfl⟩
abbrev main_v189 : Ref sig .tc := ⟨.hbm, 248, rfl⟩
abbrev main_cst_43 : Ref sig .tc := ⟨.hbm, 249, rfl⟩
abbrev main_v190 : Ref sig .tc := ⟨.hbm, 250, rfl⟩
abbrev main_v191 : Ref sig .tc := ⟨.hbm, 251, rfl⟩
abbrev main_v192 : Ref sig .tc := ⟨.hbm, 252, rfl⟩
abbrev main_cst_44 : Ref sig .tc := ⟨.hbm, 253, rfl⟩
abbrev main_v193 : Ref sig .tc := ⟨.hbm, 254, rfl⟩
abbrev main_v194 : Ref sig .tc := ⟨.hbm, 255, rfl⟩
abbrev main_v195 : Ref sig .tc := ⟨.hbm, 256, rfl⟩
abbrev main_v196 : Ref sig .tc := ⟨.hbm, 257, rfl⟩
abbrev main_v197 : Ref sig .tc := ⟨.hbm, 258, rfl⟩
abbrev main_v198 : Ref sig .tc := ⟨.hbm, 259, rfl⟩
abbrev main_cst_45 : Ref sig .tc := ⟨.hbm, 260, rfl⟩
abbrev main_v199 : Ref sig .tc := ⟨.hbm, 261, rfl⟩
abbrev main_v200 : Ref sig .tc := ⟨.hbm, 262, rfl⟩
abbrev main_v201 : Ref sig .tc := ⟨.hbm, 263, rfl⟩
abbrev main_cst_46 : Ref sig .tc := ⟨.hbm, 264, rfl⟩
abbrev main_v202 : Ref sig .tc := ⟨.hbm, 265, rfl⟩
abbrev main_v203 : Ref sig .tc := ⟨.hbm, 266, rfl⟩
abbrev main_cst_47 : Ref sig .tc := ⟨.hbm, 267, rfl⟩
abbrev main_v204 : Ref sig .tc := ⟨.hbm, 268, rfl⟩
abbrev main_cst_48 : Ref sig .tc := ⟨.hbm, 269, rfl⟩
abbrev main_v205 : Ref sig .tc := ⟨.hbm, 270, rfl⟩
abbrev main_v206 : Ref sig .tc := ⟨.hbm, 271, rfl⟩
abbrev main_cst_49 : Ref sig .tc := ⟨.hbm, 272, rfl⟩
abbrev main_v207 : Ref sig .tc := ⟨.hbm, 273, rfl⟩
abbrev main_v208 : Ref sig .tc := ⟨.hbm, 274, rfl⟩
abbrev main_cst_50 : Ref sig .tc := ⟨.hbm, 275, rfl⟩
abbrev main_v209 : Ref sig .tc := ⟨.hbm, 276, rfl⟩
abbrev main_v210 : Ref sig .tc := ⟨.hbm, 277, rfl⟩
abbrev main_cst_51 : Ref sig .tc := ⟨.hbm, 278, rfl⟩
abbrev main_v211 : Ref sig .tc := ⟨.hbm, 279, rfl⟩
abbrev main_v212 : Ref sig .tc := ⟨.hbm, 280, rfl⟩
abbrev main_v213 : Ref sig .tc := ⟨.hbm, 281, rfl⟩
abbrev main_cst_52 : Ref sig .tc := ⟨.hbm, 282, rfl⟩
abbrev main_v214 : Ref sig .tc := ⟨.hbm, 283, rfl⟩
abbrev main_v215 : Ref sig .tc := ⟨.hbm, 284, rfl⟩
abbrev main_v216 : Ref sig .tc := ⟨.hbm, 285, rfl⟩
abbrev main_cst_53 : Ref sig .tc := ⟨.hbm, 286, rfl⟩
abbrev main_v217 : Ref sig .tc := ⟨.hbm, 287, rfl⟩
abbrev main_v218 : Ref sig .tc := ⟨.hbm, 288, rfl⟩
abbrev main_v219 : Ref sig .tc := ⟨.hbm, 289, rfl⟩
abbrev main_cst_54 : Ref sig .tc := ⟨.hbm, 290, rfl⟩
abbrev main_v220 : Ref sig .tc := ⟨.hbm, 291, rfl⟩
abbrev main_v221 : Ref sig .tc := ⟨.hbm, 292, rfl⟩
abbrev main_v222 : Ref sig .tc := ⟨.hbm, 293, rfl⟩
abbrev main_v223 : Ref sig .tc := ⟨.hbm, 294, rfl⟩
abbrev main_cst_55 : Ref sig .tc := ⟨.hbm, 295, rfl⟩
abbrev main_v224 : Ref sig .tc := ⟨.hbm, 296, rfl⟩
abbrev main_v225 : Ref sig .tc := ⟨.hbm, 297, rfl⟩
abbrev main_v226 : Ref sig .tc := ⟨.hbm, 298, rfl⟩
abbrev main_cst_56 : Ref sig .tc := ⟨.hbm, 299, rfl⟩
abbrev main_v227 : Ref sig .tc := ⟨.hbm, 300, rfl⟩
abbrev main_v228 : Ref sig .tc := ⟨.hbm, 301, rfl⟩
abbrev main_v229 : Ref sig .tc := ⟨.hbm, 302, rfl⟩
abbrev main_v230 : Ref sig .tc := ⟨.hbm, 303, rfl⟩
abbrev main_cst_57 : Ref sig .tc := ⟨.hbm, 304, rfl⟩
abbrev main_v231 : Ref sig .tc := ⟨.hbm, 305, rfl⟩
abbrev main_v232 : Ref sig .tc := ⟨.hbm, 306, rfl⟩
abbrev main_v233 : Ref sig .tc := ⟨.hbm, 307, rfl⟩
abbrev main_cst_58 : Ref sig .tc := ⟨.hbm, 308, rfl⟩
abbrev main_v234 : Ref sig .tc := ⟨.hbm, 309, rfl⟩
abbrev main_v235 : Ref sig .tc := ⟨.hbm, 310, rfl⟩
abbrev main_v236 : Ref sig .tc := ⟨.hbm, 311, rfl⟩
abbrev main_v237 : Ref sig .tc := ⟨.hbm, 312, rfl⟩
abbrev main_v238 : Ref sig .tc := ⟨.hbm, 313, rfl⟩
abbrev main_cst_59 : Ref sig .tc := ⟨.hbm, 314, rfl⟩
abbrev main_v239 : Ref sig .tc := ⟨.hbm, 315, rfl⟩
abbrev main_v240 : Ref sig .tc := ⟨.hbm, 316, rfl⟩
abbrev main_v241 : Ref sig .tc := ⟨.hbm, 317, rfl⟩
abbrev main_cst_60 : Ref sig .tc := ⟨.hbm, 318, rfl⟩
abbrev main_v242 : Ref sig .tc := ⟨.hbm, 319, rfl⟩
abbrev main_v243 : Ref sig .tc := ⟨.hbm, 320, rfl⟩
abbrev main_v244 : Ref sig .tc := ⟨.hbm, 321, rfl⟩
abbrev main_v245 : Ref sig .tc := ⟨.hbm, 322, rfl⟩
abbrev main_v246 : Ref sig .tc := ⟨.hbm, 323, rfl⟩
abbrev main_cst_61 : Ref sig .tc := ⟨.hbm, 324, rfl⟩
abbrev main_v247 : Ref sig .tc := ⟨.hbm, 325, rfl⟩
abbrev main_v248 : Ref sig .tc := ⟨.hbm, 326, rfl⟩
abbrev main_v249 : Ref sig .tc := ⟨.hbm, 327, rfl⟩
abbrev main_cst_62 : Ref sig .tc := ⟨.hbm, 328, rfl⟩
abbrev main_v250 : Ref sig .tc := ⟨.hbm, 329, rfl⟩
abbrev main_v251 : Ref sig .tc := ⟨.hbm, 330, rfl⟩
abbrev main_v252 : Ref sig .tc := ⟨.hbm, 331, rfl⟩
abbrev main_v253 : Ref sig .tc := ⟨.hbm, 332, rfl⟩
abbrev main_v254 : Ref sig .tc := ⟨.hbm, 333, rfl⟩
abbrev main_v255 : Ref sig .tc := ⟨.hbm, 334, rfl⟩
abbrev main_cst_63 : Ref sig .tc := ⟨.hbm, 335, rfl⟩
abbrev main_v256 : Ref sig .tc := ⟨.hbm, 336, rfl⟩
abbrev main_v257 : Ref sig .tc := ⟨.hbm, 337, rfl⟩
abbrev main_v258 : Ref sig .tc := ⟨.hbm, 338, rfl⟩
abbrev main_cst_64 : Ref sig .tc := ⟨.hbm, 339, rfl⟩
abbrev main_v259 : Ref sig .tc := ⟨.hbm, 340, rfl⟩
abbrev main_v260 : Ref sig .tc := ⟨.hbm, 341, rfl⟩
abbrev main_v261 : Ref sig .tc := ⟨.hbm, 342, rfl⟩
abbrev main_v262 : Ref sig .tc := ⟨.hbm, 343, rfl⟩
abbrev main_v263 : Ref sig .tc := ⟨.hbm, 344, rfl⟩
abbrev main_cst_65 : Ref sig .tc := ⟨.hbm, 345, rfl⟩
abbrev main_v264 : Ref sig .tc := ⟨.hbm, 346, rfl⟩
abbrev main_v265 : Ref sig .tc := ⟨.hbm, 347, rfl⟩
abbrev main_v266 : Ref sig .tc := ⟨.hbm, 348, rfl⟩
abbrev main_cst_66 : Ref sig .tc := ⟨.hbm, 349, rfl⟩
abbrev main_v267 : Ref sig .tc := ⟨.hbm, 350, rfl⟩
abbrev main_v268 : Ref sig .tc := ⟨.hbm, 351, rfl⟩
abbrev main_v269 : Ref sig .tc := ⟨.hbm, 352, rfl⟩
abbrev main_v270 : Ref sig .tc := ⟨.hbm, 353, rfl⟩
abbrev main_v271 : Ref sig .tc := ⟨.hbm, 354, rfl⟩
abbrev main_v272 : Ref sig .tc := ⟨.hbm, 355, rfl⟩
abbrev main_v273 : Ref sig .tc := ⟨.hbm, 356, rfl⟩
abbrev main_v274 : Ref sig .tc := ⟨.hbm, 357, rfl⟩
abbrev main_v275 : Ref sig .tc := ⟨.hbm, 358, rfl⟩
abbrev main_v276 : Ref sig .tc := ⟨.hbm, 359, rfl⟩
abbrev main_v277 : Ref sig .tc := ⟨.hbm, 360, rfl⟩
abbrev main_v278 : Ref sig .tc := ⟨.hbm, 361, rfl⟩
abbrev main_v279 : Ref sig .tc := ⟨.hbm, 362, rfl⟩
abbrev main_v280 : Ref sig .tc := ⟨.hbm, 363, rfl⟩
abbrev main_v281 : Ref sig .tc := ⟨.hbm, 364, rfl⟩
abbrev main_v282 : Ref sig .tc := ⟨.hbm, 365, rfl⟩
abbrev main_v283 : Ref sig .tc := ⟨.hbm, 366, rfl⟩
abbrev main_v284 : Ref sig .tc := ⟨.hbm, 367, rfl⟩
abbrev main_v285 : Ref sig .tc := ⟨.hbm, 368, rfl⟩
abbrev main_v286 : Ref sig .tc := ⟨.hbm, 369, rfl⟩
abbrev main_v287 : Ref sig .tc := ⟨.hbm, 370, rfl⟩
abbrev main_v288 : Ref sig .tc := ⟨.hbm, 371, rfl⟩
abbrev main_v289 : Ref sig .tc := ⟨.hbm, 372, rfl⟩
abbrev main_v290 : Ref sig .tc := ⟨.hbm, 373, rfl⟩
abbrev main_v291 : Ref sig .tc := ⟨.hbm, 374, rfl⟩
abbrev main_v292 : Ref sig .tc := ⟨.hbm, 375, rfl⟩
abbrev main_cst_67 : Ref sig .tc := ⟨.hbm, 376, rfl⟩
abbrev main_v293 : Ref sig .tc := ⟨.hbm, 377, rfl⟩
abbrev main_v294 : Ref sig .tc := ⟨.hbm, 378, rfl⟩
abbrev main_v295 : Ref sig .tc := ⟨.hbm, 379, rfl⟩
abbrev main_v296 : Ref sig .tc := ⟨.hbm, 380, rfl⟩
abbrev main_v297 : Ref sig .tc := ⟨.hbm, 381, rfl⟩
abbrev main_cst_68 : Ref sig .tc := ⟨.hbm, 382, rfl⟩
abbrev main_v298 : Ref sig .tc := ⟨.hbm, 383, rfl⟩
abbrev main_v299 : Ref sig .tc := ⟨.hbm, 384, rfl⟩
abbrev main_v300 : Ref sig .tc := ⟨.hbm, 385, rfl⟩
abbrev main_v301 : Ref sig .tc := ⟨.hbm, 386, rfl⟩
abbrev main_v302 : Ref sig .tc := ⟨.hbm, 387, rfl⟩
abbrev main_v303 : Ref sig .tc := ⟨.hbm, 388, rfl⟩
abbrev main_v304 : Ref sig .tc := ⟨.hbm, 389, rfl⟩
abbrev main_cst_69 : Ref sig .tc := ⟨.hbm, 390, rfl⟩
abbrev main_v305 : Ref sig .tc := ⟨.hbm, 391, rfl⟩
abbrev main_v306 : Ref sig .tc := ⟨.hbm, 392, rfl⟩
abbrev main_v307 : Ref sig .tc := ⟨.hbm, 393, rfl⟩
abbrev main_v308 : Ref sig .tc := ⟨.hbm, 394, rfl⟩
abbrev main_v309 : Ref sig .tc := ⟨.hbm, 395, rfl⟩
abbrev main_v310 : Ref sig .tc := ⟨.hbm, 396, rfl⟩
abbrev main_v311 : Ref sig .tc := ⟨.hbm, 397, rfl⟩
abbrev main_v312 : Ref sig .tc := ⟨.hbm, 398, rfl⟩
abbrev main_cst_70 : Ref sig .tc := ⟨.hbm, 399, rfl⟩
abbrev main_v313 : Ref sig .tc := ⟨.hbm, 400, rfl⟩

abbrev nD : Nat := 1
abbrev τ : Topo := Topo.v7x

variable {F : FTy → Type} [FloatOps F]
-- ==== Proof.Body.lean ====
/- The kernel body in a uniform vocabulary: one definition per stage of the algorithm (the fractional turns, the two
   Taylor polynomials, the amplitude of a block of reflections, the two running sums over the resolution bins, the choice of a
   bin's value by label, the likelihood of every reflection, the final sum), and the proof that what the body stores is their
   composition. -/
module

public import proofs.«01_k».proof.Proof.Gen.KernelIdeal.Frame
public import Idealize.ShloMosaic.Lib.Pipeline.ValueKit

@[expose] public section

set_option maxRecDepth 16384

noncomputable section

open Idealize.ShloMosaic Idealize.ShloMosaic.TcCoe Idealize.SL.Sem

namespace Cert.KernelIdeal.Body
open Cert.KernelIdeal Cert.KernelIdeal.Gen

variable {F : FTy → Type} [FloatOps F] [Named F]

/-- A float literal over a whole shape. -/
abbrev lit (s : Shape) (w : BitVec 32) : FVec F s .f32 := broadcast s (Scalar.ofBits .f32 w)
/-- A named literal over a whole shape. -/
abbrev nam (s : Shape) (name : String) (w : BitVec 32) : FVec F s .f32 := broadcast s (Named.named κ name w)

/-- The phases of a block of 3200 reflections, in turns: atoms times reflections, one product of three terms each. -/
def turns (x : Vec F S256x3 .f32) (h : Vec F S3x3200 .f32) : FVec F S256x3200 .f32 :=
  matmul dot_S256x3_S3x3200_S256x3200_1_0_0_1_n_n none (shapeCast S256x3 x shapeCasts_S256x3_S256x3)
    (shapeCast S3x3200 h shapeCasts_S3x3200_S3x3200) (constant S256x3200 .f32 0x00000000#32)

/-- The reduced phase in radians. -/
def phase (d : FVec F S256x3200 .f32) : FVec F S256x3200 .f32 :=
  mulf (nam S256x3200 "two_pi" 0x40C90FDB#32) (subf d (roundeven d))

/-- The cosine polynomial in Horner form, over the square `z` of the phase. -/
def cosHorner (z : FVec F S256x3200 .f32) : FVec F S256x3200 .f32 :=
  addf (lit S256x3200 0x3F800000#32) (mulf z (addf (lit S256x3200 0xBF000000#32) (mulf z (addf (nam S256x3200 "taylor_4" 0x3D2AAAAB#32) (mulf z (addf (nam S256x3200 "taylor_6" 0xBAB60B61#32) (mulf z (addf (nam S256x3200 "taylor_8" 0x37D00D01#32) (mulf z (addf (nam S256x3200 "taylor_10" 0xB493F27E#32) (mulf z (addf (nam S256x3200 "taylor_12" 0x310F76C7#32) (mulf z (nam S256x3200 "taylor_14" 0xAD49CBA5#32))))))))))))))

/-- The sine polynomial in Horner form without its leading factor, over the square `z` of the phase. -/
def sinHorner (z : FVec F S256x3200 .f32) : FVec F S256x3200 .f32 :=
  addf (lit S256x3200 0x3F800000#32) (mulf z (addf (nam S256x3200 "taylor_3" 0xBE2AAAAB#32) (mulf z (addf (nam S256x3200 "taylor_5" 0x3C088889#32) (mulf z (addf (nam S256x3200 "taylor_7" 0xB9500D01#32) (mulf z (addf (nam S256x3200 "taylor_9" 0x3638EF1D#32) (mulf z (addf (nam S256x3200 "taylor_11" 0xB2D7322B#32) (mulf z (nam S256x3200 "taylor_13" 0x2F309231#32))))))))))))

/-- The sum over the atoms. -/
def overAtoms (v : FVec F S256x3200 .f32) : FVec F S1x3200 .f32 :=
  shapeCast S1x3200 (multiReduction .add [0] S3200 v 0x00000000#32 reduces_S256x3200_S3200 (.inl rfl) rfl) shapeCasts_S3200_S1x3200

/-- The amplitude from the two sums over the atoms. -/
def modulus (re im : FVec F S1x3200 .f32) : FVec F S1x3200 .f32 :=
  sqrt (addf (addf (mulf re re) (mulf im im)) (lit S1x3200 0x2B8CBCCC#32))

/-- The amplitude, given the phases in radians. -/
def ampOfPhase (p : FVec F S256x3200 .f32) : FVec F S1x3200 .f32 :=
  modulus (overAtoms (cosHorner (mulf p p))) (overAtoms (mulf p (sinHorner (mulf p p))))

/-- The amplitudes of a block of reflections. -/
def amp (x : Vec F S256x3 .f32) (h : Vec F S3x3200 .f32) : FVec F S1x3200 .f32 := ampOfPhase (phase (turns x h))

/-- Where a bin (a row) is the label of a reflection (a column). -/
def hits (lab : Vec F S1x3200 .i32) : IVec S32x3200 1 :=
  cmpi .eq (iota .tc S32x3200 32 [0] iota_S32x3200_d0_w32)
    (broadcastTo S32x3200 (shapeCast S1x3200 lab shapeCasts_S1x3200_S1x3200) broadcasts_S1x3200_S32x3200)

/-- A row of values put into the row of its label and added to the running sums. -/
def addHits (acc : FVec F S32x3200 .f32) (lab : Vec F S1x3200 .i32) (v : FVec F S1x3200 .f32) : FVec F S32x3200 .f32 :=
  addf acc (select (hits (F := F) lab)
    (broadcastTo S32x3200 (shapeCast S1x3200 v shapeCasts_S1x3200_S1x3200) broadcasts_S1x3200_S32x3200) (lit S32x3200 0x00000000#32))

/-- The normalised intensities of a block of reflections, zero at the padding. -/
def intensity (fm : FVec F S1x3200 .f32) (eps valid : Vec F S1x3200 .f32) : FVec F S1x3200 .f32 :=
  mulf (divf (mulf fm fm) (shapeCast S1x3200 eps shapeCasts_S1x3200_S1x3200)) (shapeCast S1x3200 valid shapeCasts_S1x3200_S1x3200)

/-- The running sums of the intensities, one block further. -/
def segStep (acc : FVec F S32x3200 .f32) (fm : FVec F S1x3200 .f32) (eps valid : Vec F S1x3200 .f32) (lab : Vec F S1x3200 .i32) :
    FVec F S32x3200 .f32 := addHits acc lab (intensity fm eps valid)

/-- The running counts, one block further. -/
def cntStep (acc : FVec F S32x3200 .f32) (valid : Vec F S1x3200 .f32) (lab : Vec F S1x3200 .i32) :
    FVec F S32x3200 .f32 := addHits acc lab (shapeCast S1x3200 valid shapeCasts_S1x3200_S1x3200)

/-- The sum over the lanes. -/
def overLanes (v : FVec F S32x3200 .f32) : FVec F S32x1 .f32 :=
  shapeCast S32x1 (multiReduction .add [1] S32 v 0x00000000#32 reduces_S32x3200_S32 (.inl rfl) rfl) shapeCasts_S32_S32x1

/-- The mean intensity of every bin (an empty bin has the mean zero). -/
def binMean (seg cnt : FVec F S32x3200 .f32) : FVec F S32x1 .f32 :=
  divf (overLanes seg) (maximumf (overLanes cnt) (lit S32x1 0x3F800000#32))

/-- The clipped figures of merit of the bins. -/
def clipped (sa : Vec F S32x1 .f32) : FVec F S32x1 .f32 :=
  minimumf (lit S32x1 0x3F7D70A4#32) (maximumf (lit S32x1 0x3C75C28F#32) (shapeCast S32x1 sa shapeCasts_S32x1_S32x1))

/-- One step of the choice by label: where the label is `b`, the value of bin `b`. -/
def pickStep (lab : IVec S16x3200 32) (b : BitVec 32) (v : FVec F S1x1 .f32) (acc : FVec F S16x3200 .f32) : FVec F S16x3200 .f32 :=
  select (cmpi .eq lab (broadcast S16x3200 b)) (broadcast S16x3200 (extractAt ![0, 0] v inpos_S1x1_p0_0)) acc

/-- The value of a reflection's bin, chosen by the twenty labels in turn. -/
def pick (lab : IVec S16x3200 32) (v : FVec F S32x1 .f32) : FVec F S16x3200 .f32 :=
  pickStep lab 19#32 (extractStridedSlice S1x1 ![19, 0] v slices_S32x1_o19_0_S1x1) <|
  pickStep lab 18#32 (extractStridedSlice S1x1 ![18, 0] v slices_S32x1_o18_0_S1x1) <|
  pickStep lab 17#32 (extractStridedSlice S1x1 ![17, 0] v slices_S32x1_o17_0_S1x1) <|
  pickStep lab 16#32 (extractStridedSlice S1x1 ![16, 0] v slices_S32x1_o16_0_S1x1) <|
  pickStep lab 15#32 (extractStridedSlice S1x1 ![15, 0] v slices_S32x1_o15_0_S1x1) <|
  pickStep lab 14#32 (extractStridedSlice S1x1 ![14, 0] v slices_S32x1_o14_0_S1x1) <|
  pickStep lab 13#32 (extractStridedSlice S1x1 ![13, 0] v slices_S32x1_o13_0_S1x1) <|
  pickStep lab 12#32 (extractStridedSlice S1x1 ![12, 0] v slices_S32x1_o12_0_S1x1) <|
  pickStep lab 11#32 (extractStridedSlice S1x1 ![11, 0] v slices_S32x1_o11_0_S1x1) <|
  pickStep lab 10#32 (extractStridedSlice S1x1 ![10, 0] v slices_S32x1_o10_0_S1x1) <|
  pickStep lab 9#32 (extractStridedSlice S1x1 ![9, 0] v slices_S32x1_o9_0_S1x1) <|
  pickStep lab 8#32 (extractStridedSlice S1x1 ![8, 0] v slices_S32x1_o8_0_S1x1) <|
  pickStep lab 7#32 (extractStridedSlice S1x1 ![7, 0] v slices_S32x1_o7_0_S1x1) <|
  pickStep lab 6#32 (extractStridedSlice S1x1 ![6, 0] v slices_S32x1_o6_0_S1x1) <|
  pickStep lab 5#32 (extractStridedSlice S1x1 ![5, 0] v slices_S32x1_o5_0_S1x1) <|
  pickStep lab 4#32 (extractStridedSlice S1x1 ![4, 0] v slices_S32x1_o4_0_S1x1) <|
  pickStep lab 3#32 (extractStridedSlice S1x1 ![3, 0] v slices_S32x1_o3_0_S1x1) <|
  pickStep lab 2#32 (extractStridedSlice S1x1 ![2, 0] v slices_S32x1_o2_0_S1x1) <|
  pickStep lab 1#32 (extractStridedSlice S1x1 ![1, 0] v slices_S32x1_o1_0_S1x1) <|
  pickStep lab 0#32 (extractStridedSlice S1x1 ![0, 0] v slices_S32x1_o0_0_S1x1)
    (lit S16x3200 0x00000000#32)

/-- The square of the clipped, scaled argument of the small-argument expansion of the Bessel function. -/
def smallVar (ax : FVec F S16x3200 .f32) : FVec F S16x3200 .f32 :=
  divf (minimumf ax (lit S16x3200 0x40700000#32)) (lit S16x3200 0x40700000#32)

/-- The small-argument expansion of the Bessel function. -/
def smallI0 (t : FVec F S16x3200 .f32) : FVec F S16x3200 .f32 :=
  addf (lit S16x3200 0x3F800000#32) (mulf t (addf (lit S16x3200 0x4060FFF7#32) (mulf t (addf (lit S16x3200 0x4045C19E#32) (mulf t (addf (lit S16x3200 0x3F9A76C2#32) (mulf t (addf (lit S16x3200 0x3E882DA4#32) (mulf t (addf (lit S16x3200 0x3D13C544#32) (mulf t (lit S16x3200 0x3B961EBB#32))))))))))))

/-- The large-argument expansion of the scaled Bessel function. -/
def largeI0 (u : FVec F S16x3200 .f32) : FVec F S16x3200 .f32 :=
  addf (lit S16x3200 0x3ECC422A#32) (mulf u (addf (lit S16x3200 0x3C59AD30#32) (mulf u (addf (lit S16x3200 0x3B13AA41#32) (mulf u (addf (lit S16x3200 0xBACE860A#32) (mulf u (addf (lit S16x3200 0x3C161F9C#32) (mulf u (addf (lit S16x3200 0xBCA89139#32) (mulf u (addf (lit S16x3200 0x3CD7E738#32) (mulf u (addf (lit S16x3200 0xBC86F95E#32) (mulf u (lit S16x3200 0x3B8092F8#32))))))))))))))))

/-- The logarithm of the Bessel function at a large argument `xl`. -/
def logLarge (xl : FVec F S16x3200 .f32) : FVec F S16x3200 .f32 :=
  addf (subf xl (mulf (lit S16x3200 0x3F000000#32) (log xl))) (log (largeI0 (divf (lit S16x3200 0x40700000#32) xl)))

/-- The logarithm of the Bessel function at `ax ≥ 0`. -/
def logI0 (ax : FVec F S16x3200 .f32) : FVec F S16x3200 .f32 :=
  select (cmpf .ole ax (lit S16x3200 0x40700000#32)) (log (smallI0 (mulf (smallVar ax) (smallVar ax))))
    (logLarge (maximumf ax (lit S16x3200 0x40700000#32)))

/-- The normalised calculated amplitude. -/
def ecalc (fm eps sp : FVec F S16x3200 .f32) : FVec F S16x3200 .f32 := divf fm (sqrt (mulf eps sp))

/-- The variance factor. -/
def variance (dsa : FVec F S16x3200 .f32) : FVec F S16x3200 .f32 := subf (lit S16x3200 0x3F800000#32) (mulf dsa dsa)

/-- The argument of the Bessel function. -/
def argA (eo ec dsa : FVec F S16x3200 .f32) : FVec F S16x3200 .f32 :=
  divf (mulf (mulf (mulf (lit S16x3200 0x40000000#32) dsa) eo) ec) (variance dsa)

/-- The weighted sum of the two intensities. -/
def weighted (eo ec dsa : FVec F S16x3200 .f32) : FVec F S16x3200 .f32 :=
  mulf (mulf dsa dsa) (addf (mulf eo eo) (mulf ec ec))

/-- The likelihood of an acentric reflection. -/
def acentric (eo ec dsa : FVec F S16x3200 .f32) : FVec F S16x3200 .f32 :=
  addf (subf (subf (lit S16x3200 0x00000000#32) (log (variance dsa))) (divf (weighted eo ec dsa) (variance dsa)))
    (logI0 (absf (argA eo ec dsa)))

/-- The logarithm of the hyperbolic cosine of an argument of absolute value `a`. -/
def logCosh (a : FVec F S16x3200 .f32) : FVec F S16x3200 .f32 :=
  subf (addf a (log (addf (lit S16x3200 0x3F800000#32) (exp (mulf (lit S16x3200 0xC0000000#32) a)))))
    (broadcast S16x3200 (Scalar.log (Scalar.ofBits .f32 0x40000000#32)))

/-- The likelihood of a centric reflection. -/
def centric (eo ec dsa : FVec F S16x3200 .f32) : FVec F S16x3200 .f32 :=
  addf (subf (mulf (lit S16x3200 0xBF000000#32) (log (variance dsa)))
      (divf (weighted eo ec dsa) (mulf (lit S16x3200 0x40000000#32) (variance dsa))))
    (logCosh (absf (mulf (lit S16x3200 0x3F000000#32) (argA eo ec dsa))))

/-- The likelihood of every reflection, from its amplitude, its mean intensity `sp` and its figure of merit `sg`. -/
def llg (fm sp sg eo eps dobs : FVec F S16x3200 .f32) (cent : FVec F S16x3200 .f32) : FVec F S16x3200 .f32 :=
  select (cmpf .one cent (lit S16x3200 0x00000000#32))
    (centric eo (ecalc fm eps sp) (mulf dobs sg)) (acentric eo (ecalc fm eps sp) (mulf dobs sg))

/-- The sum over all the reflections of the block. -/
def total (v : FVec F S16x3200 .f32) : FVec F S1x1 .f32 :=
  broadcast S1x1 (extractAt ![0, 0, 0] (shapeCast S1x1x1 (multiReduction .add [1, 2] S1
    (shapeCast S1x16x3200 v shapeCasts_S16x3200_S1x16x3200) 0x00000000#32 reduces_S1x16x3200_S1 (.inl rfl) rfl)
    shapeCasts_S1_S1x1x1) inpos_S1x1x1_p0_0_0)

/-- What the body stores, from the sums over the bins and the amplitudes of all the reflections. -/
def score (seg cnt : FVec F S32x3200 .f32) (fm eo eps dobs cent : Vec F S16x3200 .f32) (lab : Vec F S16x3200 .i32)
    (sub : Vec F S16x3200 .f32) (sa : Vec F S32x1 .f32) : FVec F S1x1 .f32 :=
  total (mulf (llg fm (pick (shapeCast S16x3200 lab shapeCasts_S16x3200_S16x3200) (binMean seg cnt))
    (pick (shapeCast S16x3200 lab shapeCasts_S16x3200_S16x3200) (clipped sa))
    (shapeCast S16x3200 eo shapeCasts_S16x3200_S16x3200) (shapeCast S16x3200 eps shapeCasts_S16x3200_S16x3200)
    (shapeCast S16x3200 dobs shapeCasts_S16x3200_S16x3200) (shapeCast S16x3200 cent shapeCasts_S16x3200_S16x3200))
    (shapeCast S16x3200 sub shapeCasts_S16x3200_S16x3200))

variable (c : Dev nD) (arg0 : Memref sig .tc .vmem S256x3 .f32) (harg0 : arg0.IsWhole) (arg1 : Memref sig .tc .vmem S3x51200 .f32) (harg1 : arg1.IsWhole) (arg2 : Memref sig .tc .vmem S16x3200 .f32) (harg2 : arg2.IsWhole) (arg3 : Memref sig .tc .vmem S16x3200 .f32) (harg3 : arg3.IsWhole) (arg4 : Memref sig .tc .vmem S16x3200 .f32) (harg4 : arg4.IsWhole) (arg5 : Memref sig .tc .vmem S16x3200 .f32) (harg5 : arg5.IsWhole) (arg6 : Memref sig .tc .vmem S16x3200 .i32) (harg6 : arg6.IsWhole) (arg7 : Memref sig .tc .vmem S16x3200 .f32) (harg7 : arg7.IsWhole) (arg8 : Memref sig .tc .vmem S16x3200 .f32) (harg8 : arg8.IsWhole) (arg9 : Memref sig .tc .vmem S32x1 .f32) (harg9 : arg9.IsWhole) (arg10 : Memref sig .tc .vmem S1x1 .f32) (harg10 : arg10.IsWhole) (arg11 : Memref sig .tc .vmem S16x3200 .f32) (harg11 : arg11.IsWhole) (x0 : Vec F S256x3 .f32) (x1 : Vec F S3x51200 .f32) (x2 : Vec F S16x3200 .f32) (x3 : Vec F S16x3200 .f32) (x4 : Vec F S16x3200 .f32) (x5 : Vec F S16x3200 .f32) (x6 : Vec F S16x3200 .i32) (x7 : Vec F S16x3200 .f32) (x8 : Vec F S16x3200 .f32) (x9 : Vec F S32x1 .f32)

/-- Block `i` of an array of 16 rows, as the body loads it. -/
abbrev row (off : ℕ) (inb : ∀ a, (![off, 0] : Fin 2 → ℕ) a + S1x3200.size a ≤ S16x3200.size a) {e : EltTy} (m : Memref sig .tc .vmem S16x3200 e) (h : m.IsWhole) (x : Vec F S16x3200 e) : Vec F S1x3200 e :=
  View.readAt (Elt F) m.view (Rect.unit (s := S16x3200) ![off, 0] S1x3200.size inb).toLoadRect (h.unread x)

/-! The running sums after each block. -/

theorem seg_0 : (kernelRun0_A.sl.r_7 (F := F) c arg0 harg0 arg1 harg1 arg3 harg3 arg6 harg6 arg8 harg8 x0 x1 x3 x6 x8)
    = segStep k0_pay3 (amp (View.readAt (Elt F) arg0.view (Rect.unit (s := S256x3) ![0, 0] S256x3.size inb_S256x3_S256x3_0_0).toLoadRect (harg0.unread x0)) (View.readAt (Elt F) arg1.view (Rect.unit (s := S3x51200) ![0, 0] S3x3200.size inb_S3x51200_S3x3200_0_0).toLoadRect (harg1.unread x1))) (row 0 inb_S16x3200_S1x3200_0_0 arg3 harg3 x3) (row 0 inb_S16x3200_S1x3200_0_0 arg8 harg8 x8) (row 0 inb_S16x3200_S1x3200_0_0 arg6 harg6 x6) := by sl_kernel_rfl

theorem cnt_0 : (kernelRun0_A.sl.r_8 (F := F) c arg6 harg6 arg8 harg8 x6 x8)
    = cntStep k0_pay4 (row 0 inb_S16x3200_S1x3200_0_0 arg8 harg8 x8) (row 0 inb_S16x3200_S1x3200_0_0 arg6 harg6 x6) := by sl_kernel_rfl

theorem seg_1 : (kernelRun0_A.sl.r_14 (F := F) c arg0 harg0 arg1 harg1 arg3 harg3 arg6 harg6 arg8 harg8 x0 x1 x3 x6 x8)
    = segStep (kernelRun0_A.sl.r_7 (F := F) c arg0 harg0 arg1 harg1 arg3 harg3 arg6 harg6 arg8 harg8 x0 x1 x3 x6 x8) (amp (View.readAt (Elt F) arg0.view (Rect.unit (s := S256x3) ![0, 0] S256x3.size inb_S256x3_S256x3_0_0).toLoadRect (harg0.unread x0)) (View.readAt (Elt F) arg1.view (Rect.unit (s := S3x51200) ![0, 3200] S3x3200.size inb_S3x51200_S3x3200_0_3200).toLoadRect (harg1.unread x1))) (row 1 inb_S16x3200_S1x3200_1_0 arg3 harg3 x3) (row 1 inb_S16x3200_S1x3200_1_0 arg8 harg8 x8) (row 1 inb_S16x3200_S1x3200_1_0 arg6 harg6 x6) := by sl_kernel_rfl

theorem cnt_1 : (kernelRun0_A.sl.r_16 (F := F) c arg6 harg6 arg8 harg8 x6 x8)
    = cntStep (kernelRun0_A.sl.r_8 (F := F) c arg6 harg6 arg8 harg8 x6 x8) (row 1 inb_S16x3200_S1x3200_1_0 arg8 harg8 x8) (row 1 inb_S16x3200_S1x3200_1_0 arg6 harg6 x6) := by sl_kernel_rfl

theorem seg_2 : (kernelRun0_A.sl.r_21 (F := F) c arg0 harg0 arg1 harg1 arg3 harg3 arg6 harg6 arg8 harg8 x0 x1 x3 x6 x8)
    = segStep (kernelRun0_A.sl.r_14 (F := F) c arg0 harg0 arg1 harg1 arg3 harg3 arg6 harg6 arg8 harg8 x0 x1 x3 x6 x8) (amp (View.readAt (Elt F) arg0.view (Rect.unit (s := S256x3) ![0, 0] S256x3.size inb_S256x3_S256x3_0_0).toLoadRect (harg0.unread x0)) (View.readAt (Elt F) arg1.view (Rect.unit (s := S3x51200) ![0, 6400] S3x3200.size inb_S3x51200_S3x3200_0_6400).toLoadRect (harg1.unread x1))) (row 2 inb_S16x3200_S1x3200_2_0 arg3 harg3 x3) (row 2 inb_S16x3200_S1x3200_2_0 arg8 harg8 x8) (row 2 inb_S16x3200_S1x3200_2_0 arg6 harg6 x6) := by sl_kernel_rfl

theorem cnt_2 : (kernelRun0_A.sl.r_22 (F := F) c arg6 harg6 arg8 harg8 x6 x8)
    = cntStep (kernelRun0_A.sl.r_16 (F := F) c arg6 harg6 arg8 harg8 x6 x8) (row 2 inb_S16x3200_S1x3200_2_0 arg8 harg8 x8) (row 2 inb_S16x3200_S1x3200_2_0 arg6 harg6 x6) := by sl_kernel_rfl

theorem seg_3 : (kernelRun0_A.sl.r_27 (F := F) c arg0 harg0 arg1 harg1 arg3 harg3 arg6 harg6 arg8 harg8 x0 x1 x3 x6 x8)
    = segStep (kernelRun0_A.sl.r_21 (F := F) c arg0 harg0 arg1 harg1 arg3 harg3 arg6 harg6 arg8 harg8 x0 x1 x3 x6 x8) (amp (View.readAt (Elt F) arg0.view (Rect.unit (s := S256x3) ![0, 0] S256x3.size inb_S256x3_S256x3_0_0).toLoadRect (harg0.unread x0)) (View.readAt (Elt F) arg1.view (Rect.unit (s := S3x51200) ![0, 9600] S3x3200.size inb_S3x51200_S3x3200_0_9600).toLoadRect (harg1.unread x1))) (row 3 inb_S16x3200_S1x3200_3_0 arg3 harg3 x3) (row 3 inb_S16x3200_S1x3200_3_0 arg8 harg8 x8) (row 3 inb_S16x3200_S1x3200_3_0 arg6 harg6 x6) := by sl_kernel_rfl

theorem cnt_3 : (kernelRun0_A.sl.r_28 (F := F) c arg6 harg6 arg8 harg8 x6 x8)
    = cntStep (kernelRun0_A.sl.r_22 (F := F) c arg6 harg6 arg8 harg8 x6 x8) (row 3 inb_S16x3200_S1x3200_3_0 arg8 harg8 x8) (row 3 inb_S16x3200_S1x3200_3_0 arg6 harg6 x6) := by sl_kernel_rfl

theorem seg_4 : (kernelRun0_A.sl.v419 (F := F) c arg0 harg0 arg1 harg1 arg3 harg3 arg6 harg6 arg8 harg8 x0 x1 x3 x6 x8)
    = segStep (kernelRun0_A.sl.r_27 (F := F) c arg0 harg0 arg1 harg1 arg3 harg3 arg6 harg6 arg8 harg8 x0 x1 x3 x6 x8) (amp (View.readAt (Elt F) arg0.view (Rect.unit (s := S256x3) ![0, 0] S256x3.size inb_S256x3_S256x3_0_0).toLoadRect (harg0.unread x0)) (View.readAt (Elt F) arg1.view (Rect.unit (s := S3x51200) ![0, 12800] S3x3200.size inb_S3x51200_S3x3200_0_12800).toLoadRect (harg1.unread x1))) (row 4 inb_S16x3200_S1x3200_4_0 arg3 harg3 x3) (row 4 inb_S16x3200_S1x3200_4_0 arg8 harg8 x8) (row 4 inb_S16x3200_S1x3200_4_0 arg6 harg6 x6) := by sl_kernel_rfl

theorem cnt_4 : (kernelRun0_A.sl.v424 (F := F) c arg6 harg6 arg8 harg8 x6 x8)
    = cntStep (kernelRun0_A.sl.r_28 (F := F) c arg6 harg6 arg8 harg8 x6 x8) (row 4 inb_S16x3200_S1x3200_4_0 arg8 harg8 x8) (row 4 inb_S16x3200_S1x3200_4_0 arg6 harg6 x6) := by sl_kernel_rfl

theorem seg_5 : (kernelRun0_A.sl.r_37 (F := F) c arg0 harg0 arg1 harg1 arg3 harg3 arg6 harg6 arg8 harg8 x0 x1 x3 x6 x8)
    = segStep (kernelRun0_A.sl.v419 (F := F) c arg0 harg0 arg1 harg1 arg3 harg3 arg6 harg6 arg8 harg8 x0 x1 x3 x6 x8) (amp (View.readAt (Elt F) arg0.view (Rect.unit (s := S256x3) ![0, 0] S256x3.size inb_S256x3_S256x3_0_0).toLoadRect (harg0.unread x0)) (View.readAt (Elt F) arg1.view (Rect.unit (s := S3x51200) ![0, 16000] S3x3200.size inb_S3x51200_S3x3200_0_16000).toLoadRect (harg1.unread x1))) (row 5 inb_S16x3200_S1x3200_5_0 arg3 harg3 x3) (row 5 inb_S16x3200_S1x3200_5_0 arg8 harg8 x8) (row 5 inb_S16x3200_S1x3200_5_0 arg6 harg6 x6) := by sl_kernel_rfl

theorem cnt_5 : (kernelRun0_A.sl.r_38 (F := F) c arg6 harg6 arg8 harg8 x6 x8)
    = cntStep (kernelRun0_A.sl.v424 (F := F) c arg6 harg6 arg8 harg8 x6 x8) (row 5 inb_S16x3200_S1x3200_5_0 arg8 harg8 x8) (row 5 inb_S16x3200_S1x3200_5_0 arg6 harg6 x6) := by sl_kernel_rfl

theorem seg_6 : (kernelRun0_A.sl.r_42 (F := F) c arg0 harg0 arg1 harg1 arg3 harg3 arg6 harg6 arg8 harg8 x0 x1 x3 x6 x8)
    = segStep (kernelRun0_A.sl.r_37 (F := F) c arg0 harg0 arg1 harg1 arg3 harg3 arg6 harg6 arg8 harg8 x0 x1 x3 x6 x8) (amp (View.readAt (Elt F) arg0.view (Rect.unit (s := S256x3) ![0, 0] S256x3.size inb_S256x3_S256x3_0_0).toLoadRect (harg0.unread x0)) (View.readAt (Elt F) arg1.view (Rect.unit (s := S3x51200) ![0, 19200] S3x3200.size inb_S3x51200_S3x3200_0_19200).toLoadRect (harg1.unread x1))) (row 6 inb_S16x3200_S1x3200_6_0 arg3 harg3 x3) (row 6 inb_S16x3200_S1x3200_6_0 arg8 harg8 x8) (row 6 inb_S16x3200_S1x3200_6_0 arg6 harg6 x6) := by sl_kernel_rfl

theorem cnt_6 : (kernelRun0_A.sl.r_43 (F := F) c arg6 harg6 arg8 harg8 x6 x8)
    = cntStep (kernelRun0_A.sl.r_38 (F := F) c arg6 harg6 arg8 harg8 x6 x8) (row 6 inb_S16x3200_S1x3200_6_0 arg8 harg8 x8) (row 6 inb_S16x3200_S1x3200_6_0 arg6 harg6 x6) := by sl_kernel_rfl

theorem seg_7 : (kernelRun0_A.sl.r_48 (F := F) c arg0 harg0 arg1 harg1 arg3 harg3 arg6 harg6 arg8 harg8 x0 x1 x3 x6 x8)
    = segStep (kernelRun0_A.sl.r_42 (F := F) c arg0 harg0 arg1 harg1 arg3 harg3 arg6 harg6 arg8 harg8 x0 x1 x3 x6 x8) (amp (View.readAt (Elt F) arg0.view (Rect.unit (s := S256x3) ![0, 0] S256x3.size inb_S256x3_S256x3_0_0).toLoadRect (harg0.unread x0)) (View.readAt (Elt F) arg1.view (Rect.unit (s := S3x51200) ![0, 22400] S3x3200.size inb_S3x51200_S3x3200_0_22400).toLoadRect (harg1.unread x1))) (row 7 inb_S16x3200_S1x3200_7_0 arg3 harg3 x3) (row 7 inb_S16x3200_S1x3200_7_0 arg8 harg8 x8) (row 7 inb_S16x3200_S1x3200_7_0 arg6 harg6 x6) := by sl_kernel_rfl

theorem cnt_7 : (kernelRun0_A.sl.r_49 (F := F) c arg6 harg6 arg8 harg8 x6 x8)
    = cntStep (kernelRun0_A.sl.r_43 (F := F) c arg6 harg6 arg8 harg8 x6 x8) (row 7 inb_S16x3200_S1x3200_7_0 arg8 harg8 x8) (row 7 inb_S16x3200_S1x3200_7_0 arg6 harg6 x6) := by sl_kernel_rfl

theorem seg_8 : (kernelRun0_A.sl.r_55 (F := F) c arg0 harg0 arg1 harg1 arg3 harg3 arg6 harg6 arg8 harg8 x0 x1 x3 x6 x8)
    = segStep (kernelRun0_A.sl.r_48 (F := F) c arg0 harg0 arg1 harg1 arg3 harg3 arg6 harg6 arg8 harg8 x0 x1 x3 x6 x8) (amp (View.readAt (Elt F) arg0.view (Rect.unit (s := S256x3) ![0, 0] S256x3.size inb_S256x3_S256x3_0_0).toLoadRect (harg0.unread x0)) (View.readAt (Elt F) arg1.view (Rect.unit (s := S3x51200) ![0, 25600] S3x3200.size inb_S3x51200_S3x3200_0_25600).toLoadRect (harg1.unread x1))) (row 8 inb_S16x3200_S1x3200_8_0 arg3 harg3 x3) (row 8 inb_S16x3200_S1x3200_8_0 arg8 harg8 x8) (row 8 inb_S16x3200_S1x3200_8_0 arg6 harg6 x6) := by sl_kernel_rfl

theorem cnt_8 : (kernelRun0_A.sl.r_56 (F := F) c arg6 harg6 arg8 harg8 x6 x8)
    = cntStep (kernelRun0_A.sl.r_49 (F := F) c arg6 harg6 arg8 harg8 x6 x8) (row 8 inb_S16x3200_S1x3200_8_0 arg8 harg8 x8) (row 8 inb_S16x3200_S1x3200_8_0 arg6 harg6 x6) := by sl_kernel_rfl

theorem seg_9 : (kernelRun0_A.sl.r_61 (F := F) c arg0 harg0 arg1 harg1 arg3 harg3 arg6 harg6 arg8 harg8 x0 x1 x3 x6 x8)
    = segStep (kernelRun0_A.sl.r_55 (F := F) c arg0 harg0 arg1 harg1 arg3 harg3 arg6 harg6 arg8 harg8 x0 x1 x3 x6 x8) (amp (View.readAt (Elt F) arg0.view (Rect.unit (s := S256x3) ![0, 0] S256x3.size inb_S256x3_S256x3_0_0).toLoadRect (harg0.unread x0)) (View.readAt (Elt F) arg1.view (Rect.unit (s := S3x51200) ![0, 28800] S3x3200.size inb_S3x51200_S3x3200_0_28800).toLoadRect (harg1.unread x1))) (row 9 inb_S16x3200_S1x3200_9_0 arg3 harg3 x3) (row 9 inb_S16x3200_S1x3200_9_0 arg8 harg8 x8) (row 9 inb_S16x3200_S1x3200_9_0 arg6 harg6 x6) := by sl_kernel_rfl

theorem cnt_9 : (kernelRun0_A.sl.r_62 (F := F) c arg6 harg6 arg8 harg8 x6 x8)
    = cntStep (kernelRun0_A.sl.r_56 (F := F) c arg6 harg6 arg8 harg8 x6 x8) (row 9 inb_S16x3200_S1x3200_9_0 arg8 harg8 x8) (row 9 inb_S16x3200_S1x3200_9_0 arg6 harg6 x6) := by sl_kernel_rfl

theorem seg_10 : (kernelRun0_A.sl.r_67 (F := F) c arg0 harg0 arg1 harg1 arg3 harg3 arg6 harg6 arg8 harg8 x0 x1 x3 x6 x8)
    = segStep (kernelRun0_A.sl.r_61 (F := F) c arg0 harg0 arg1 harg1 arg3 harg3 arg6 harg6 arg8 harg8 x0 x1 x3 x6 x8) (amp (View.readAt (Elt F) arg0.view (Rect.unit (s := S256x3) ![0, 0] S256x3.size inb_S256x3_S256x3_0_0).toLoadRect (harg0.unread x0)) (View.readAt (Elt F) arg1.view (Rect.unit (s := S3x51200) ![0, 32000] S3x3200.size inb_S3x51200_S3x3200_0_32000).toLoadRect (harg1.unread x1))) (row 10 inb_S16x3200_S1x3200_10_0 arg3 harg3 x3) (row 10 inb_S16x3200_S1x3200_10_0 arg8 harg8 x8) (row 10 inb_S16x3200_S1x3200_10_0 arg6 harg6 x6) := by sl_kernel_rfl

theorem cnt_10 : (kernelRun0_A.sl.r_68 (F := F) c arg6 harg6 arg8 harg8 x6 x8)
    = cntStep (kernelRun0_A.sl.r_62 (F := F) c arg6 harg6 arg8 harg8 x6 x8) (row 10 inb_S16x3200_S1x3200_10_0 arg8 harg8 x8) (row 10 inb_S16x3200_S1x3200_10_0 arg6 harg6 x6) := by sl_kernel_rfl

theorem seg_11 : (kernelRun0_A.sl.r_73 (F := F) c arg0 harg0 arg1 harg1 arg3 harg3 arg6 harg6 arg8 harg8 x0 x1 x3 x6 x8)
    = segStep (kernelRun0_A.sl.r_67 (F := F) c arg0 harg0 arg1 harg1 arg3 harg3 arg6 harg6 arg8 harg8 x0 x1 x3 x6 x8) (amp (View.readAt (Elt F) arg0.view (Rect.unit (s := S256x3) ![0, 0] S256x3.size inb_S256x3_S256x3_0_0).toLoadRect (harg0.unread x0)) (View.readAt (Elt F) arg1.view (Rect.unit (s := S3x51200) ![0, 35200] S3x3200.size inb_S3x51200_S3x3200_0_35200).toLoadRect (harg1.unread x1))) (row 11 inb_S16x3200_S1x3200_11_0 arg3 harg3 x3) (row 11 inb_S16x3200_S1x3200_11_0 arg8 harg8 x8) (row 11 inb_S16x3200_S1x3200_11_0 arg6 harg6 x6) := by sl_kernel_rfl

theorem cnt_11 : (kernelRun0_A.sl.r_74 (F := F) c arg6 harg6 arg8 harg8 x6 x8)
    = cntStep (kernelRun0_A.sl.r_68 (F := F) c arg6 harg6 arg8 harg8 x6 x8) (row 11 inb_S16x3200_S1x3200_11_0 arg8 harg8 x8) (row 11 inb_S16x3200_S1x3200_11_0 arg6 harg6 x6) := by sl_kernel_rfl

theorem seg_12 : (kernelRun0_A.sl.r_80 (F := F) c arg0 harg0 arg1 harg1 arg3 harg3 arg6 harg6 arg8 harg8 x0 x1 x3 x6 x8)
    = segStep (kernelRun0_A.sl.r_73 (F := F) c arg0 harg0 arg1 harg1 arg3 harg3 arg6 harg6 arg8 harg8 x0 x1 x3 x6 x8) (amp (View.readAt (Elt F) arg0.view (Rect.unit (s := S256x3) ![0, 0] S256x3.size inb_S256x3_S256x3_0_0).toLoadRect (harg0.unread x0)) (View.readAt (Elt F) arg1.view (Rect.unit (s := S3x51200) ![0, 38400] S3x3200.size inb_S3x51200_S3x3200_0_38400).toLoadRect (harg1.unread x1))) (row 12 inb_S16x3200_S1x3200_12_0 arg3 harg3 x3) (row 12 inb_S16x3200_S1x3200_12_0 arg8 harg8 x8) (row 12 inb_S16x3200_S1x3200_12_0 arg6 harg6 x6) := by sl_kernel_rfl

theorem cnt_12 : (kernelRun0_A.sl.r_81 (F := F) c arg6 harg6 arg8 harg8 x6 x8)
    = cntStep (kernelRun0_A.sl.r_74 (F := F) c arg6 harg6 arg8 harg8 x6 x8) (row 12 inb_S16x3200_S1x3200_12_0 arg8 harg8 x8) (row 12 inb_S16x3200_S1x3200_12_0 arg6 harg6 x6) := by sl_kernel_rfl

theorem seg_13 : (kernelRun0_A.sl.r_86 (F := F) c arg0 harg0 arg1 harg1 arg3 harg3 arg6 harg6 arg8 harg8 x0 x1 x3 x6 x8)
    = segStep (kernelRun0_A.sl.r_80 (F := F) c arg0 harg0 arg1 harg1 arg3 harg3 arg6 harg6 arg8 harg8 x0 x1 x3 x6 x8) (amp (View.readAt (Elt F) arg0.view (Rect.unit (s := S256x3) ![0, 0] S256x3.size inb_S256x3_S256x3_0_0).toLoadRect (harg0.unread x0)) (View.readAt (Elt F) arg1.view (Rect.unit (s := S3x51200) ![0, 41600] S3x3200.size inb_S3x51200_S3x3200_0_41600).toLoadRect (harg1.unread x1))) (row 13 inb_S16x3200_S1x3200_13_0 arg3 harg3 x3) (row 13 inb_S16x3200_S1x3200_13_0 arg8 harg8 x8) (row 13 inb_S16x3200_S1x3200_13_0 arg6 harg6 x6) := by sl_kernel_rfl

theorem cnt_13 : (kernelRun0_A.sl.r_87 (F := F) c arg6 harg6 arg8 harg8 x6 x8)
    = cntStep (kernelRun0_A.sl.r_81 (F := F) c arg6 harg6 arg8 harg8 x6 x8) (row 13 inb_S16x3200_S1x3200_13_0 arg8 harg8 x8) (row 13 inb_S16x3200_S1x3200_13_0 arg6 harg6 x6) := by sl_kernel_rfl

theorem seg_14 : (kernelRun0_A.sl.r_93 (F := F) c arg0 harg0 arg1 harg1 arg3 harg3 arg6 harg6 arg8 harg8 x0 x1 x3 x6 x8)
    = segStep (kernelRun0_A.sl.r_86 (F := F) c arg0 harg0 arg1 harg1 arg3 harg3 arg6 harg6 arg8 harg8 x0 x1 x3 x6 x8) (amp (View.readAt (Elt F) arg0.view (Rect.unit (s := S256x3) ![0, 0] S256x3.size inb_S256x3_S256x3_0_0).toLoadRect (harg0.unread x0)) (View.readAt (Elt F) arg1.view (Rect.unit (s := S3x51200) ![0, 44800] S3x3200.size inb_S3x51200_S3x3200_0_44800).toLoadRect (harg1.unread x1))) (row 14 inb_S16x3200_S1x3200_14_0 arg3 harg3 x3) (row 14 inb_S16x3200_S1x3200_14_0 arg8 harg8 x8) (row 14 inb_S16x3200_S1x3200_14_0 arg6 harg6 x6) := by sl_kernel_rfl

theorem cnt_14 : (kernelRun0_A.sl.r_94 (F := F) c arg6 harg6 arg8 harg8 x6 x8)
    = cntStep (kernelRun0_A.sl.r_87 (F := F) c arg6 harg6 arg8 harg8 x6 x8) (row 14 inb_S16x3200_S1x3200_14_0 arg8 harg8 x8) (row 14 inb_S16x3200_S1x3200_14_0 arg6 harg6 x6) := by sl_kernel_rfl

theorem seg_15 : (kernelRun0_A.sl.v1343 (F := F) c arg0 harg0 arg1 harg1 arg3 harg3 arg6 harg6 arg8 harg8 x0 x1 x3 x6 x8)
    = segStep (kernelRun0_A.sl.r_93 (F := F) c arg0 harg0 arg1 harg1 arg3 harg3 arg6 harg6 arg8 harg8 x0 x1 x3 x6 x8) (amp (View.readAt (Elt F) arg0.view (Rect.unit (s := S256x3) ![0, 0] S256x3.size inb_S256x3_S256x3_0_0).toLoadRect (harg0.unread x0)) (View.readAt (Elt F) arg1.view (Rect.unit (s := S3x51200) ![0, 48000] S3x3200.size inb_S3x51200_S3x3200_0_48000).toLoadRect (harg1.unread x1))) (row 15 inb_S16x3200_S1x3200_15_0 arg3 harg3 x3) (row 15 inb_S16x3200_S1x3200_15_0 arg8 harg8 x8) (row 15 inb_S16x3200_S1x3200_15_0 arg6 harg6 x6) := by sl_kernel_rfl

theorem cnt_15 : (kernelRun0_A.sl.v1348 (F := F) c arg6 harg6 arg8 harg8 x6 x8)
    = cntStep (kernelRun0_A.sl.r_94 (F := F) c arg6 harg6 arg8 harg8 x6 x8) (row 15 inb_S16x3200_S1x3200_15_0 arg8 harg8 x8) (row 15 inb_S16x3200_S1x3200_15_0 arg6 harg6 x6) := by sl_kernel_rfl

/-- The sixteen rows of the scratch buffer, the newest first. -/
theorem rows_written : (kernelRun0_A.sl.HS0_16 (F := F) c arg0 harg0 arg1 harg1 x0 x1)
    = [⟨Rect.unit (s := S16x3200) ![15, 0] S1x3200.size inb_S16x3200_S1x3200_15_0, shapeCast S1x3200 (amp (View.readAt (Elt F) arg0.view (Rect.unit (s := S256x3) ![0, 0] S256x3.size inb_S256x3_S256x3_0_0).toLoadRect (harg0.unread x0)) (View.readAt (Elt F) arg1.view (Rect.unit (s := S3x51200) ![0, 48000] S3x3200.size inb_S3x51200_S3x3200_0_48000).toLoadRect (harg1.unread x1))) shapeCasts_S1x3200_S1x3200⟩,
     ⟨Rect.unit (s := S16x3200) ![14, 0] S1x3200.size inb_S16x3200_S1x3200_14_0, shapeCast S1x3200 (amp (View.readAt (Elt F) arg0.view (Rect.unit (s := S256x3) ![0, 0] S256x3.size inb_S256x3_S256x3_0_0).toLoadRect (harg0.unread x0)) (View.readAt (Elt F) arg1.view (Rect.unit (s := S3x51200) ![0, 44800] S3x3200.size inb_S3x51200_S3x3200_0_44800).toLoadRect (harg1.unread x1))) shapeCasts_S1x3200_S1x3200⟩,
     ⟨Rect.unit (s := S16x3200) ![13, 0] S1x3200.size inb_S16x3200_S1x3200_13_0, shapeCast S1x3200 (amp (View.readAt (Elt F) arg0.view (Rect.unit (s := S256x3) ![0, 0] S256x3.size inb_S256x3_S256x3_0_0).toLoadRect (harg0.unread x0)) (View.readAt (Elt F) arg1.view (Rect.unit (s := S3x51200) ![0, 41600] S3x3200.size inb_S3x51200_S3x3200_0_41600).toLoadRect (harg1.unread x1))) shapeCasts_S1x3200_S1x3200⟩,
     ⟨Rect.unit (s := S16x3200) ![12, 0] S1x3200.size inb_S16x3200_S1x3200_12_0, shapeCast S1x3200 (amp (View.readAt (Elt F) arg0.view (Rect.unit (s := S256x3) ![0, 0] S256x3.size inb_S256x3_S256x3_0_0).toLoadRect (harg0.unread x0)) (View.readAt (Elt F) arg1.view (Rect.unit (s := S3x51200) ![0, 38400] S3x3200.size inb_S3x51200_S3x3200_0_38400).toLoadRect (harg1.unread x1))) shapeCasts_S1x3200_S1x3200⟩,
     ⟨Rect.unit (s := S16x3200) ![11, 0] S1x3200.size inb_S16x3200_S1x3200_11_0, shapeCast S1x3200 (amp (View.readAt (Elt F) arg0.view (Rect.unit (s := S256x3) ![0, 0] S256x3.size inb_S256x3_S256x3_0_0).toLoadRect (harg0.unread x0)) (View.readAt (Elt F) arg1.view (Rect.unit (s := S3x51200) ![0, 35200] S3x3200.size inb_S3x51200_S3x3200_0_35200).toLoadRect (harg1.unread x1))) shapeCasts_S1x3200_S1x3200⟩,
     ⟨Rect.unit (s := S16x3200) ![10, 0] S1x3200.size inb_S16x3200_S1x3200_10_0, shapeCast S1x3200 (amp (View.readAt (Elt F) arg0.view (Rect.unit (s := S256x3) ![0, 0] S256x3.size inb_S256x3_S256x3_0_0).toLoadRect (harg0.unread x0)) (View.readAt (Elt F) arg1.view (Rect.unit (s := S3x51200) ![0, 32000] S3x3200.size inb_S3x51200_S3x3200_0_32000).toLoadRect (harg1.unread x1))) shapeCasts_S1x3200_S1x3200⟩,
     ⟨Rect.unit (s := S16x3200) ![9, 0] S1x3200.size inb_S16x3200_S1x3200_9_0, shapeCast S1x3200 (amp (View.readAt (Elt F) arg0.view (Rect.unit (s := S256x3) ![0, 0] S256x3.size inb_S256x3_S256x3_0_0).toLoadRect (harg0.unread x0)) (View.readAt (Elt F) arg1.view (Rect.unit (s := S3x51200) ![0, 28800] S3x3200.size inb_S3x51200_S3x3200_0_28800).toLoadRect (harg1.unread x1))) shapeCasts_S1x3200_S1x3200⟩,
     ⟨Rect.unit (s := S16x3200) ![8, 0] S1x3200.size inb_S16x3200_S1x3200_8_0, shapeCast S1x3200 (amp (View.readAt (Elt F) arg0.view (Rect.unit (s := S256x3) ![0, 0] S256x3.size inb_S256x3_S256x3_0_0).toLoadRect (harg0.unread x0)) (View.readAt (Elt F) arg1.view (Rect.unit (s := S3x51200) ![0, 25600] S3x3200.size inb_S3x51200_S3x3200_0_25600).toLoadRect (harg1.unread x1))) shapeCasts_S1x3200_S1x3200⟩,
     ⟨Rect.unit (s := S16x3200) ![7, 0] S1x3200.size inb_S16x3200_S1x3200_7_0, shapeCast S1x3200 (amp (View.readAt (Elt F) arg0.view (Rect.unit (s := S256x3) ![0, 0] S256x3.size inb_S256x3_S256x3_0_0).toLoadRect (harg0.unread x0)) (View.readAt (Elt F) arg1.view (Rect.unit (s := S3x51200) ![0, 22400] S3x3200.size inb_S3x51200_S3x3200_0_22400).toLoadRect (harg1.unread x1))) shapeCasts_S1x3200_S1x3200⟩,
     ⟨Rect.unit (s := S16x3200) ![6, 0] S1x3200.size inb_S16x3200_S1x3200_6_0, shapeCast S1x3200 (amp (View.readAt (Elt F) arg0.view (Rect.unit (s := S256x3) ![0, 0] S256x3.size inb_S256x3_S256x3_0_0).toLoadRect (harg0.unread x0)) (View.readAt (Elt F) arg1.view (Rect.unit (s := S3x51200) ![0, 19200] S3x3200.size inb_S3x51200_S3x3200_0_19200).toLoadRect (harg1.unread x1))) shapeCasts_S1x3200_S1x3200⟩,
     ⟨Rect.unit (s := S16x3200) ![5, 0] S1x3200.size inb_S16x3200_S1x3200_5_0, shapeCast S1x3200 (amp (View.readAt (Elt F) arg0.view (Rect.unit (s := S256x3) ![0, 0] S256x3.size inb_S256x3_S256x3_0_0).toLoadRect (harg0.unread x0)) (View.readAt (Elt F) arg1.view (Rect.unit (s := S3x51200) ![0, 16000] S3x3200.size inb_S3x51200_S3x3200_0_16000).toLoadRect (harg1.unread x1))) shapeCasts_S1x3200_S1x3200⟩,
     ⟨Rect.unit (s := S16x3200) ![4, 0] S1x3200.size inb_S16x3200_S1x3200_4_0, shapeCast S1x3200 (amp (View.readAt (Elt F) arg0.view (Rect.unit (s := S256x3) ![0, 0] S256x3.size inb_S256x3_S256x3_0_0).toLoadRect (harg0.unread x0)) (View.readAt (Elt F) arg1.view (Rect.unit (s := S3x51200) ![0, 12800] S3x3200.size inb_S3x51200_S3x3200_0_12800).toLoadRect (harg1.unread x1))) shapeCasts_S1x3200_S1x3200⟩,
     ⟨Rect.unit (s := S16x3200) ![3, 0] S1x3200.size inb_S16x3200_S1x3200_3_0, shapeCast S1x3200 (amp (View.readAt (Elt F) arg0.view (Rect.unit (s := S256x3) ![0, 0] S256x3.size inb_S256x3_S256x3_0_0).toLoadRect (harg0.unread x0)) (View.readAt (Elt F) arg1.view (Rect.unit (s := S3x51200) ![0, 9600] S3x3200.size inb_S3x51200_S3x3200_0_9600).toLoadRect (harg1.unread x1))) shapeCasts_S1x3200_S1x3200⟩,
     ⟨Rect.unit (s := S16x3200) ![2, 0] S1x3200.size inb_S16x3200_S1x3200_2_0, shapeCast S1x3200 (amp (View.readAt (Elt F) arg0.view (Rect.unit (s := S256x3) ![0, 0] S256x3.size inb_S256x3_S256x3_0_0).toLoadRect (harg0.unread x0)) (View.readAt (Elt F) arg1.view (Rect.unit (s := S3x51200) ![0, 6400] S3x3200.size inb_S3x51200_S3x3200_0_6400).toLoadRect (harg1.unread x1))) shapeCasts_S1x3200_S1x3200⟩,
     ⟨Rect.unit (s := S16x3200) ![1, 0] S1x3200.size inb_S16x3200_S1x3200_1_0, shapeCast S1x3200 (amp (View.readAt (Elt F) arg0.view (Rect.unit (s := S256x3) ![0, 0] S256x3.size inb_S256x3_S256x3_0_0).toLoadRect (harg0.unread x0)) (View.readAt (Elt F) arg1.view (Rect.unit (s := S3x51200) ![0, 3200] S3x3200.size inb_S3x51200_S3x3200_0_3200).toLoadRect (harg1.unread x1))) shapeCasts_S1x3200_S1x3200⟩,
     ⟨Rect.unit (s := S16x3200) ![0, 0] S1x3200.size inb_S16x3200_S1x3200_0_0, shapeCast S1x3200 (amp (View.readAt (Elt F) arg0.view (Rect.unit (s := S256x3) ![0, 0] S256x3.size inb_S256x3_S256x3_0_0).toLoadRect (harg0.unread x0)) (View.readAt (Elt F) arg1.view (Rect.unit (s := S3x51200) ![0, 0] S3x3200.size inb_S3x51200_S3x3200_0_0).toLoadRect (harg1.unread x1))) shapeCasts_S1x3200_S1x3200⟩] := by sl_kernel_rfl

/-- What the body stores, over the last running sums and the amplitudes read back. -/
theorem stored : k0_pay1 (kernelRun0_A.sl.r_101 (F := F) c arg0 harg0 arg1 harg1 arg2 harg2 arg3 harg3 arg4 harg4 arg5 harg5 arg6 harg6 arg7 harg7 arg8 harg8 arg9 harg9 arg11 x0 x1 x2 x3 x4 x5 x6 x7 x8 x9)
    = score (kernelRun0_A.sl.v1343 (F := F) c arg0 harg0 arg1 harg1 arg3 harg3 arg6 harg6 arg8 harg8 x0 x1 x3 x6 x8) (kernelRun0_A.sl.v1348 (F := F) c arg6 harg6 arg8 harg8 x6 x8) (kernelRun0_A.sl.v1566 (F := F) c arg0 harg0 arg1 harg1 arg11 x0 x1)
        (View.readAt (Elt F) arg2.view (Rect.unit (s := S16x3200) ![0, 0] S16x3200.size inb_S16x3200_S16x3200_0_0).toLoadRect (harg2.unread x2)) (View.readAt (Elt F) arg3.view (Rect.unit (s := S16x3200) ![0, 0] S16x3200.size inb_S16x3200_S16x3200_0_0).toLoadRect (harg3.unread x3)) (View.readAt (Elt F) arg4.view (Rect.unit (s := S16x3200) ![0, 0] S16x3200.size inb_S16x3200_S16x3200_0_0).toLoadRect (harg4.unread x4)) (View.readAt (Elt F) arg5.view (Rect.unit (s := S16x3200) ![0, 0] S16x3200.size inb_S16x3200_S16x3200_0_0).toLoadRect (harg5.unread x5)) (View.readAt (Elt F) arg6.view (Rect.unit (s := S16x3200) ![0, 0] S16x3200.size inb_S16x3200_S16x3200_0_0).toLoadRect (harg6.unread x6)) (View.readAt (Elt F) arg7.view (Rect.unit (s := S16x3200) ![0, 0] S16x3200.size inb_S16x3200_S16x3200_0_0).toLoadRect (harg7.unread x7)) (View.readAt (Elt F) arg9.view (Rect.unit (s := S32x1) ![0, 0] S32x1.size inb_S32x1_S32x1_0_0).toLoadRect (harg9.unread x9)) := by sl_kernel_rfl

end Cert.KernelIdeal.Body

end
-- ==== Proof.Out.lean ====
/- What the kernel body leaves in its output buffer, over the contents of the input buffers: the stages of Body.lean at the
   sixteen blocks of 3200 reflections. -/
module

public import proofs.«01_k».proof.Proof.Body
public import Idealize.ShloMosaic.Lib.WholeRead

@[expose] public section

set_option maxRecDepth 16384

noncomputable section

open Idealize.ShloMosaic Idealize.ShloMosaic.TcCoe Idealize.SL.Sem

namespace Cert.KernelIdeal.Body
open Cert.KernelIdeal Cert.KernelIdeal.Gen

variable {F : FTy → Type} [FloatOps F] [Named F]

/-- Block `i` of the indices of the reflections: columns `3200 i` to `3200 i + 3199`. -/
def colBlock (x : Vec F S3x51200 .f32) (i : Fin 16) : Vec F S3x3200 .f32 :=
  fun j => x (ix2 (j 0) ⟨3200 * i.val + (j 1).val, by have := (j 1).isLt; have := i.isLt; simp at *; omega⟩)

/-- Block `i` of an array of sixteen rows: its row `i`. -/
def rowBlock {e : EltTy} (x : Vec F S16x3200 e) (i : Fin 16) : Vec F S1x3200 e := fun j => x (ix2 i (j 1))

/-- The amplitudes of all the reflections. -/
def ampAll (x : Vec F S256x3 .f32) (h : Vec F S3x51200 .f32) : FVec F S16x3200 .f32 :=
  fun j => amp x (colBlock h (j 0)) (ix2 0 (j 1))

/-- The running sums over the blocks. -/
def segAll (x : Vec F S256x3 .f32) (h : Vec F S3x51200 .f32) (eps valid : Vec F S16x3200 .f32) (lab : Vec F S16x3200 .i32) :
    FVec F S32x3200 .f32 :=
  (List.finRange 16).foldl (fun acc i => segStep acc (amp x (colBlock h i)) (rowBlock eps i) (rowBlock valid i) (rowBlock lab i))
    (lit S32x3200 0x00000000#32)

/-- The running counts over the blocks. -/
def cntAll (valid : Vec F S16x3200 .f32) (lab : Vec F S16x3200 .i32) : FVec F S32x3200 .f32 :=
  (List.finRange 16).foldl (fun acc i => cntStep acc (rowBlock valid i) (rowBlock lab i)) (lit S32x3200 0x00000000#32)

/-- A load of one row reads that row. -/
theorem row_eq {e : EltTy} (i : Fin 16) (off : ℕ) (hoff : off = i.val) (inb) (m : Memref sig .tc .vmem S16x3200 e) (h : m.IsWhole)
    (x : Vec F S16x3200 e) : row off inb m h x = rowBlock x i := by
  funext j
  unfold row rowBlock
  rw [h.readAt_unread]
  congr 1
  funext a
  refine Fin.ext ?_
  have h0 := (j 0).isLt
  match a with
  | ⟨0, _⟩ => show off + 1 * (j 0).val = i.val; change (j 0).val < 1 at h0; omega
  | ⟨1, _⟩ => show 0 + 1 * (j 1).val = (j 1).val; omega

/-- A load of one block of columns reads those columns. -/
theorem col_eq (i : Fin 16) (off : ℕ) (hoff : off = 3200 * i.val) (inb : ∀ a, (![0, off] : Fin 2 → ℕ) a + S3x3200.size a ≤ S3x51200.size a)
    (m : Memref sig .tc .vmem S3x51200 .f32) (h : m.IsWhole) (x : Vec F S3x51200 .f32) :
    View.readAt (Elt F) m.view (Rect.unit (s := S3x51200) ![0, off] S3x3200.size inb).toLoadRect (h.unread x) = colBlock x i := by
  funext j
  unfold colBlock
  rw [h.readAt_unread]
  congr 1
  funext a
  refine Fin.ext ?_
  match a with
  | ⟨0, _⟩ => show 0 + 1 * (j 0).val = (j 0).val; omega
  | ⟨1, _⟩ => show off + 1 * (j 1).val = 3200 * i.val + (j 1).val; omega

/-- A load of the whole buffer reads it. -/
theorem whole_eq {S : Shape} {e : EltTy} {off : Fin S.rank → ℕ} (hoff : ∀ a, off a = 0) (inb : ∀ a, off a + S.size a ≤ S.size a)
    (m : Memref sig .tc .vmem S e) (h : m.IsWhole) (x : Vec F S e) :
    View.readAt (Elt F) m.view (Rect.unit off S.size inb).toLoadRect (h.unread x) = x := by
  rw [View.readAt_eq_ld, h.read_unread]
  exact View.ld_unit_zero (funext hoff) inb x

variable (c : Dev nD) (arg0 : Memref sig .tc .vmem S256x3 .f32) (harg0 : arg0.IsWhole) (arg1 : Memref sig .tc .vmem S3x51200 .f32) (harg1 : arg1.IsWhole) (arg2 : Memref sig .tc .vmem S16x3200 .f32) (harg2 : arg2.IsWhole) (arg3 : Memref sig .tc .vmem S16x3200 .f32) (harg3 : arg3.IsWhole) (arg4 : Memref sig .tc .vmem S16x3200 .f32) (harg4 : arg4.IsWhole) (arg5 : Memref sig .tc .vmem S16x3200 .f32) (harg5 : arg5.IsWhole) (arg6 : Memref sig .tc .vmem S16x3200 .i32) (harg6 : arg6.IsWhole) (arg7 : Memref sig .tc .vmem S16x3200 .f32) (harg7 : arg7.IsWhole) (arg8 : Memref sig .tc .vmem S16x3200 .f32) (harg8 : arg8.IsWhole) (arg9 : Memref sig .tc .vmem S32x1 .f32) (harg9 : arg9.IsWhole) (arg10 : Memref sig .tc .vmem S1x1 .f32) (harg10 : arg10.IsWhole) (arg11 : Memref sig .tc .vmem S16x3200 .f32) (harg11 : arg11.IsWhole) (x0 : Vec F S256x3 .f32) (x1 : Vec F S3x51200 .f32) (x2 : Vec F S16x3200 .f32) (x3 : Vec F S16x3200 .f32) (x4 : Vec F S16x3200 .f32) (x5 : Vec F S16x3200 .f32) (x6 : Vec F S16x3200 .i32) (x7 : Vec F S16x3200 .f32) (x8 : Vec F S16x3200 .f32) (x9 : Vec F S32x1 .f32)

theorem seg_eq : (kernelRun0_A.sl.v1343 (F := F) c arg0 harg0 arg1 harg1 arg3 harg3 arg6 harg6 arg8 harg8 x0 x1 x3 x6 x8) = segAll x0 x1 x3 x8 x6 := by
  rw [seg_15, seg_14, seg_13, seg_12, seg_11, seg_10, seg_9, seg_8, seg_7, seg_6, seg_5, seg_4, seg_3, seg_2, seg_1, seg_0]
  rw [whole_eq (by decide)]
  rw [col_eq 0 0 rfl, row_eq 0 0 rfl, row_eq 0 0 rfl, row_eq 0 0 rfl]
  rw [col_eq 1 3200 rfl, row_eq 1 1 rfl, row_eq 1 1 rfl, row_eq 1 1 rfl]
  rw [col_eq 2 6400 rfl, row_eq 2 2 rfl, row_eq 2 2 rfl, row_eq 2 2 rfl]
  rw [col_eq 3 9600 rfl, row_eq 3 3 rfl, row_eq 3 3 rfl, row_eq 3 3 rfl]
  rw [col_eq 4 12800 rfl, row_eq 4 4 rfl, row_eq 4 4 rfl, row_eq 4 4 rfl]
  rw [col_eq 5 16000 rfl, row_eq 5 5 rfl, row_eq 5 5 rfl, row_eq 5 5 rfl]
  rw [col_eq 6 19200 rfl, row_eq 6 6 rfl, row_eq 6 6 rfl, row_eq 6 6 rfl]
  rw [col_eq 7 22400 rfl, row_eq 7 7 rfl, row_eq 7 7 rfl, row_eq 7 7 rfl]
  rw [col_eq 8 25600 rfl, row_eq 8 8 rfl, row_eq 8 8 rfl, row_eq 8 8 rfl]
  rw [col_eq 9 28800 rfl, row_eq 9 9 rfl, row_eq 9 9 rfl, row_eq 9 9 rfl]
  rw [col_eq 10 32000 rfl, row_eq 10 10 rfl, row_eq 10 10 rfl, row_eq 10 10 rfl]
  rw [col_eq 11 35200 rfl, row_eq 11 11 rfl, row_eq 11 11 rfl, row_eq 11 11 rfl]
  rw [col_eq 12 38400 rfl, row_eq 12 12 rfl, row_eq 12 12 rfl, row_eq 12 12 rfl]
  rw [col_eq 13 41600 rfl, row_eq 13 13 rfl, row_eq 13 13 rfl, row_eq 13 13 rfl]
  rw [col_eq 14 44800 rfl, row_eq 14 14 rfl, row_eq 14 14 rfl, row_eq 14 14 rfl]
  rw [col_eq 15 48000 rfl, row_eq 15 15 rfl, row_eq 15 15 rfl, row_eq 15 15 rfl]
  rfl

theorem cnt_eq : (kernelRun0_A.sl.v1348 (F := F) c arg6 harg6 arg8 harg8 x6 x8) = cntAll x8 x6 := by
  rw [cnt_15, cnt_14, cnt_13, cnt_12, cnt_11, cnt_10, cnt_9, cnt_8, cnt_7, cnt_6, cnt_5, cnt_4, cnt_3, cnt_2, cnt_1, cnt_0]
  rw [row_eq 0 0 rfl, row_eq 0 0 rfl]
  rw [row_eq 1 1 rfl, row_eq 1 1 rfl]
  rw [row_eq 2 2 rfl, row_eq 2 2 rfl]
  rw [row_eq 3 3 rfl, row_eq 3 3 rfl]
  rw [row_eq 4 4 rfl, row_eq 4 4 rfl]
  rw [row_eq 5 5 rfl, row_eq 5 5 rfl]
  rw [row_eq 6 6 rfl, row_eq 6 6 rfl]
  rw [row_eq 7 7 rfl, row_eq 7 7 rfl]
  rw [row_eq 8 8 rfl, row_eq 8 8 rfl]
  rw [row_eq 9 9 rfl, row_eq 9 9 rfl]
  rw [row_eq 10 10 rfl, row_eq 10 10 rfl]
  rw [row_eq 11 11 rfl, row_eq 11 11 rfl]
  rw [row_eq 12 12 rfl, row_eq 12 12 rfl]
  rw [row_eq 13 13 rfl, row_eq 13 13 rfl]
  rw [row_eq 14 14 rfl, row_eq 14 14 rfl]
  rw [row_eq 15 15 rfl, row_eq 15 15 rfl]
  rfl

theorem amp_eq : (kernelRun0_A.sl.v1566 (F := F) c arg0 harg0 arg1 harg1 arg11 x0 x1) = ampAll x0 x1 := by
  show View.readCov _ (kernelRun0_A.sl.HS0_16 (F := F) c arg0 harg0 arg1 harg1 x0 x1) _ = _
  rw [rows_written, View.readCov_eq_canon', whole_eq (by decide)]
  rw [col_eq 0 0 rfl]
  rw [col_eq 1 3200 rfl]
  rw [col_eq 2 6400 rfl]
  rw [col_eq 3 9600 rfl]
  rw [col_eq 4 12800 rfl]
  rw [col_eq 5 16000 rfl]
  rw [col_eq 6 19200 rfl]
  rw [col_eq 7 22400 rfl]
  rw [col_eq 8 25600 rfl]
  rw [col_eq 9 28800 rfl]
  rw [col_eq 10 32000 rfl]
  rw [col_eq 11 35200 rfl]
  rw [col_eq 12 38400 rfl]
  rw [col_eq 13 41600 rfl]
  rw [col_eq 14 44800 rfl]
  rw [col_eq 15 48000 rfl]
  funext y
  rw [show (Rect.unit (s := S16x3200) ![0, 0] S16x3200.size inb_S16x3200_S16x3200_0_0).toLoadRect.idx y = y from by
    funext a; refine Fin.ext ?_; match a with
    | ⟨0, _⟩ => show 0 + 1 * (y 0).val = (y 0).val; omega
    | ⟨1, _⟩ => show 0 + 1 * (y 1).val = (y 1).val; omega]
  canon_tiles x h
  all_goals
    rw [shapeCast_id]
    unfold ampAll
    refine congrArg₂ (fun b j => amp x0 (colBlock x1 b) j) (Fin.ext ?_) (funext fun a => Fin.ext ?_)
    · show (_ : ℕ) = (y 0).val; omega
    · match a with
      | ⟨0, _⟩ => show (x 0).val = 0; omega
      | ⟨1, _⟩ => show (x 1).val = (y 1).val; omega

/-- What the body stores: the score of the amplitudes, their sums and the input buffers. -/
theorem out_eq : out0_A_10 c arg0 harg0 arg1 harg1 arg2 harg2 arg3 harg3 arg4 harg4 arg5 harg5 arg6 harg6 arg7 harg7 arg8 harg8 arg9 harg9 arg10 harg10 arg11 harg11 x0 x1 x2 x3 x4 x5 x6 x7 x8 x9 = score (segAll x0 x1 x3 x8 x6) (cntAll x8 x6) (ampAll x0 x1) x2 x3 x4 x5 x6 x7 x9 := by
  unfold out0_A_10
  rw [View.read_writes_junk_eq_canon]
  refine Eq.trans (congrArg _ (show _ = [⟨Rect.unit (s := S1x1) ![0, 0] S1x1.size inb_S1x1_S1x1_0_0, _⟩] from rfl)) ?_
  rw [View.canon_unit_zero (by decide)]
  rw [stored, seg_eq, cnt_eq, amp_eq]
  repeat rw [whole_eq (by decide)]

end Cert.KernelIdeal.Body

end
-- ==== Proof.Scalar.lean ====
/- The arithmetic of one reflection over the extended reals: the kernel's Horner polynomials and logarithms against the
   reference's power series, scaled Bessel function and `logaddexp`. -/
module

public import Idealize.ShloMosaic.PureOps.Ideal
public import Idealize.ShloMosaic.PureOps.Ideal.Laws

@[expose] public section

set_option maxRecDepth 16384

noncomputable section

open Idealize.ShloMosaic

namespace Cert.Score

/-- The value of a float literal. -/
abbrev fl (w : BitVec 32) : EReal := Ideal.ofBits .f32 w

/-! The literals whose values matter. -/

theorem fl_neg_half : fl 0xBF000000#32 = ((-(1/2) : ℝ) : EReal) := by simp [Ideal.ofBits, Ideal.ieee, -EReal.coe_mul]; norm_num
theorem fl_half : fl 0x3F000000#32 = ((1/2 : ℝ) : EReal) := by simp [Ideal.ofBits, Ideal.ieee, -EReal.coe_mul]; norm_num
theorem fl_two : fl 0x40000000#32 = ((2 : ℝ) : EReal) := by simp [Ideal.ofBits, Ideal.ieee, -EReal.coe_mul]; norm_num
theorem fl_neg_two : fl 0xC0000000#32 = ((-2 : ℝ) : EReal) := by simp [Ideal.ofBits, Ideal.ieee, -EReal.coe_mul]; norm_num
theorem fl_eight : fl 0x41000000#32 = ((8 : ℝ) : EReal) := by simp [Ideal.ofBits, Ideal.ieee, -EReal.coe_mul]; norm_num
theorem fl_cut : fl 0x40700000#32 = ((3.75 : ℝ) : EReal) := by simp [Ideal.ofBits, Ideal.ieee, -EReal.coe_mul]; norm_num
theorem fl_nat12 : fl 0x41400000#32 = ((12 : ℝ) : EReal) := by simp [Ideal.ofBits, Ideal.ieee, -EReal.coe_mul]; norm_num
theorem fl_nat30 : fl 0x41F00000#32 = ((30 : ℝ) : EReal) := by simp [Ideal.ofBits, Ideal.ieee, -EReal.coe_mul]; norm_num
theorem fl_nat56 : fl 0x42600000#32 = ((56 : ℝ) : EReal) := by simp [Ideal.ofBits, Ideal.ieee, -EReal.coe_mul]; norm_num
theorem fl_nat90 : fl 0x42B40000#32 = ((90 : ℝ) : EReal) := by simp [Ideal.ofBits, Ideal.ieee, -EReal.coe_mul]; norm_num
theorem fl_nat132 : fl 0x43040000#32 = ((132 : ℝ) : EReal) := by simp [Ideal.ofBits, Ideal.ieee, -EReal.coe_mul]; norm_num
theorem fl_nat182 : fl 0x43360000#32 = ((182 : ℝ) : EReal) := by simp [Ideal.ofBits, Ideal.ieee, -EReal.coe_mul]; norm_num
theorem fl_nat6 : fl 0x40C00000#32 = ((6 : ℝ) : EReal) := by simp [Ideal.ofBits, Ideal.ieee, -EReal.coe_mul]; norm_num
theorem fl_nat20 : fl 0x41A00000#32 = ((20 : ℝ) : EReal) := by simp [Ideal.ofBits, Ideal.ieee, -EReal.coe_mul]; norm_num
theorem fl_nat42 : fl 0x42280000#32 = ((42 : ℝ) : EReal) := by simp [Ideal.ofBits, Ideal.ieee, -EReal.coe_mul]; norm_num
theorem fl_nat72 : fl 0x42900000#32 = ((72 : ℝ) : EReal) := by simp [Ideal.ofBits, Ideal.ieee, -EReal.coe_mul]; norm_num
theorem fl_nat110 : fl 0x42DC0000#32 = ((110 : ℝ) : EReal) := by simp [Ideal.ofBits, Ideal.ieee, -EReal.coe_mul]; norm_num
theorem fl_nat156 : fl 0x431C0000#32 = ((156 : ℝ) : EReal) := by simp [Ideal.ofBits, Ideal.ieee, -EReal.coe_mul]; norm_num

/-! The other literals are real numbers, and only that matters. -/

theorem small1 : ∃ r : ℝ, fl 0x4060FFF7#32 = (r : EReal) := ⟨_, by simp [Ideal.ofBits, Ideal.ieee, -EReal.coe_mul]; rfl⟩
theorem small2 : ∃ r : ℝ, fl 0x4045C19E#32 = (r : EReal) := ⟨_, by simp [Ideal.ofBits, Ideal.ieee, -EReal.coe_mul]; rfl⟩
theorem small3 : ∃ r : ℝ, fl 0x3F9A76C2#32 = (r : EReal) := ⟨_, by simp [Ideal.ofBits, Ideal.ieee, -EReal.coe_mul]; rfl⟩
theorem small4 : ∃ r : ℝ, fl 0x3E882DA4#32 = (r : EReal) := ⟨_, by simp [Ideal.ofBits, Ideal.ieee, -EReal.coe_mul]; rfl⟩
theorem small5 : ∃ r : ℝ, fl 0x3D13C544#32 = (r : EReal) := ⟨_, by simp [Ideal.ofBits, Ideal.ieee, -EReal.coe_mul]; rfl⟩
theorem small6 : ∃ r : ℝ, fl 0x3B961EBB#32 = (r : EReal) := ⟨_, by simp [Ideal.ofBits, Ideal.ieee, -EReal.coe_mul]; rfl⟩
theorem large0 : ∃ r : ℝ, fl 0x3ECC422A#32 = (r : EReal) := ⟨_, by simp [Ideal.ofBits, Ideal.ieee, -EReal.coe_mul]; rfl⟩
theorem large1 : ∃ r : ℝ, fl 0x3C59AD30#32 = (r : EReal) := ⟨_, by simp [Ideal.ofBits, Ideal.ieee, -EReal.coe_mul]; rfl⟩
theorem large2 : ∃ r : ℝ, fl 0x3B13AA41#32 = (r : EReal) := ⟨_, by simp [Ideal.ofBits, Ideal.ieee, -EReal.coe_mul]; rfl⟩
theorem large3 : ∃ r : ℝ, fl 0xBACE860A#32 = (r : EReal) := ⟨_, by simp [Ideal.ofBits, Ideal.ieee, -EReal.coe_mul]; rfl⟩
theorem large4 : ∃ r : ℝ, fl 0x3C161F9C#32 = (r : EReal) := ⟨_, by simp [Ideal.ofBits, Ideal.ieee, -EReal.coe_mul]; rfl⟩
theorem large5 : ∃ r : ℝ, fl 0xBCA89139#32 = (r : EReal) := ⟨_, by simp [Ideal.ofBits, Ideal.ieee, -EReal.coe_mul]; rfl⟩
theorem large6 : ∃ r : ℝ, fl 0x3CD7E738#32 = (r : EReal) := ⟨_, by simp [Ideal.ofBits, Ideal.ieee, -EReal.coe_mul]; rfl⟩
theorem large7 : ∃ r : ℝ, fl 0xBC86F95E#32 = (r : EReal) := ⟨_, by simp [Ideal.ofBits, Ideal.ieee, -EReal.coe_mul]; rfl⟩
theorem large8 : ∃ r : ℝ, fl 0x3B8092F8#32 = (r : EReal) := ⟨_, by simp [Ideal.ofBits, Ideal.ieee, -EReal.coe_mul]; rfl⟩

/-! ## The trigonometric polynomials -/

/-- The kernel's cosine polynomial. -/
def cosK (p : EReal) : EReal := (1 + (p * p) * (fl 0xBF000000#32 + (p * p) * (((1 / 24 : ℝ) : EReal) + (p * p) * (((-1 / 720 : ℝ) : EReal) + (p * p) * (((1 / 40320 : ℝ) : EReal) + (p * p) * (((-1 / 3628800 : ℝ) : EReal) + (p * p) * (((1 / 479001600 : ℝ) : EReal) + (p * p) * ((-1 / 87178291200 : ℝ) : EReal))))))))

/-- The kernel's sine polynomial. -/
def sinK (p : EReal) : EReal := p * (1 + (p * p) * (((-1 / 6 : ℝ) : EReal) + (p * p) * (((1 / 120 : ℝ) : EReal) + (p * p) * (((-1 / 5040 : ℝ) : EReal) + (p * p) * (((1 / 362880 : ℝ) : EReal) + (p * p) * (((-1 / 39916800 : ℝ) : EReal) + (p * p) * ((1 / 6227020800 : ℝ) : EReal)))))))

/-- The reference's cosine polynomial: each term from the one before. -/
def cosR (p : EReal) : EReal :=
  let t1 := Ideal.div (-1 * (p * p)) (fl 0x40000000#32)
  let t2 := Ideal.div (-t1 * (p * p)) (fl 0x41400000#32)
  let t3 := Ideal.div (-t2 * (p * p)) (fl 0x41F00000#32)
  let t4 := Ideal.div (-t3 * (p * p)) (fl 0x42600000#32)
  let t5 := Ideal.div (-t4 * (p * p)) (fl 0x42B40000#32)
  let t6 := Ideal.div (-t5 * (p * p)) (fl 0x43040000#32)
  let t7 := Ideal.div (-t6 * (p * p)) (fl 0x43360000#32)
  1 + t1 + t2 + t3 + t4 + t5 + t6 + t7

/-- The reference's sine polynomial: each term from the one before. -/
def sinR (p : EReal) : EReal :=
  let t1 := Ideal.div (-p * (p * p)) (fl 0x40C00000#32)
  let t2 := Ideal.div (-t1 * (p * p)) (fl 0x41A00000#32)
  let t3 := Ideal.div (-t2 * (p * p)) (fl 0x42280000#32)
  let t4 := Ideal.div (-t3 * (p * p)) (fl 0x42900000#32)
  let t5 := Ideal.div (-t4 * (p * p)) (fl 0x42DC0000#32)
  let t6 := Ideal.div (-t5 * (p * p)) (fl 0x431C0000#32)
  p + t1 + t2 + t3 + t4 + t5 + t6

/-- The two cosine polynomials agree at a real phase, and at the junk phase of an infinite index. -/
theorem cos_eq (p : EReal) (hp : p ≠ ⊤) : cosK p = cosR p := by
  induction p using EReal.rec with
  | bot =>
    have hz : (⊥ : EReal) * ⊥ = ⊤ := by simp
    have hk : cosK ⊥ = ⊥ := by
      simp only [cosK, hz]
      rw [EReal.top_mul_coe_of_neg (by norm_num), EReal.add_bot]
      simp only [EReal.top_mul_bot, EReal.add_bot]
    have hr : cosR ⊥ = ⊥ := by
      simp only [cosR, hz, fl_two]
      rw [show (-1 : EReal) * ⊤ = ⊥ from by rw [show (-1 : EReal) = ((-1 : ℝ) : EReal) from by norm_num, EReal.coe_mul_top_of_neg (by norm_num)],
        Ideal.div_coe (by norm_num), EReal.bot_mul_coe_of_pos (by norm_num)]
      simp only [EReal.add_bot, EReal.bot_add]
    rw [hk, hr]
  | top => exact absurd rfl hp
  | coe r =>
    have h1 : (1 : EReal) = ((1 : ℝ) : EReal) := rfl
    simp only [cosK, cosR, fl_neg_half, fl_two, fl_nat12, fl_nat30, fl_nat56, fl_nat90, fl_nat132, fl_nat182, h1]
    repeat rw [Ideal.div_coe (by norm_num)]
    simp only [← EReal.coe_mul, ← EReal.coe_add, ← EReal.coe_neg]
    congr 1
    ring

/-- The two sine polynomials likewise. -/
theorem sin_eq (p : EReal) (hp : p ≠ ⊤) : sinK p = sinR p := by
  induction p using EReal.rec with
  | bot =>
    have hz : (⊥ : EReal) * ⊥ = ⊤ := by simp
    have hk : sinK ⊥ = ⊥ := by
      simp only [sinK, hz]
      rw [EReal.top_mul_coe_of_pos (by norm_num)]
      simp only [EReal.coe_add_top, EReal.top_mul_top]
      rw [show (1 : EReal) = ((1 : ℝ) : EReal) from rfl, EReal.coe_add_top, EReal.bot_mul_top]
    have hr : sinR ⊥ = ⊥ := by
      simp only [sinR, EReal.bot_add]
    rw [hk, hr]
  | top => exact absurd rfl hp
  | coe r =>
    have h1 : (1 : EReal) = ((1 : ℝ) : EReal) := rfl
    simp only [sinK, sinR, fl_nat6, fl_nat20, fl_nat42, fl_nat72, fl_nat110, fl_nat156, h1]
    repeat rw [Ideal.div_coe (by norm_num)]
    simp only [← EReal.coe_mul, ← EReal.coe_add, ← EReal.coe_neg]
    congr 1
    ring

/-- The reduced phase, in radians. -/
def phase (d : EReal) : EReal := ((2 * Real.pi : ℝ) : EReal) * (d - Ideal.liftRound Ideal.roundHalfEven d)

/-- The reduced phase is never `⊤`: an infinite number of turns leaves an infinity minus itself. -/
theorem phase_ne_top (d : EReal) : phase d ≠ ⊤ := by
  have hpi : (0 : ℝ) < 2 * Real.pi := by positivity
  induction d using EReal.rec with
  | bot =>
    have : phase ⊥ = ⊥ := by
      show ((2 * Real.pi : ℝ) : EReal) * (⊥ - ⊥) = ⊥
      rw [show (⊥ : EReal) - ⊥ = ⊥ from rfl, EReal.coe_mul_bot_of_pos hpi]
    rw [this]; exact bot_ne_top
  | top =>
    have : phase ⊤ = ⊥ := by
      show ((2 * Real.pi : ℝ) : EReal) * (⊤ - ⊤) = ⊥
      rw [show (⊤ : EReal) - ⊤ = ⊥ from rfl, EReal.coe_mul_bot_of_pos hpi]
    rw [this]; exact bot_ne_top
  | coe r =>
    show ((2 * Real.pi : ℝ) : EReal) * ((r : EReal) - ((Ideal.roundHalfEven r : ℝ) : EReal)) ≠ ⊤
    rw [← EReal.coe_sub, ← EReal.coe_mul]
    exact EReal.coe_ne_top _

/-- Eight times the arctangent of one is `2π`. -/
theorem two_pi_eq : fl 0x41000000#32 * Ideal.atan 1 = ((2 * Real.pi : ℝ) : EReal) := by
  rw [fl_eight, show (1 : EReal) = ((1 : ℝ) : EReal) from rfl]
  show ((8 : ℝ) : EReal) * ((Real.arctan 1 : ℝ) : EReal) = _
  rw [Real.arctan_one, ← EReal.coe_mul]
  congr 1
  ring

/-! ## The logarithm of the Bessel function -/

/-- The kernel's small-argument polynomial, over the square of the scaled argument. -/
def smallK (t : EReal) : EReal := (1 + t * (fl 0x4060FFF7#32 + t * (fl 0x4045C19E#32 + t * (fl 0x3F9A76C2#32 + t * (fl 0x3E882DA4#32 + t * (fl 0x3D13C544#32 + t * fl 0x3B961EBB#32))))))

/-- The kernel's large-argument polynomial. -/
def largeK (u : EReal) : EReal := (fl 0x3ECC422A#32 + u * (fl 0x3C59AD30#32 + u * (fl 0x3B13AA41#32 + u * (fl 0xBACE860A#32 + u * (fl 0x3C161F9C#32 + u * (fl 0xBCA89139#32 + u * (fl 0x3CD7E738#32 + u * (fl 0xBC86F95E#32 + u * fl 0x3B8092F8#32))))))))

/-- The kernel's logarithm of the Bessel function at `ax ≥ 0`. -/
def logI0K (ax : EReal) : EReal :=
  if ax ≤ fl 0x40700000#32 then
    Ideal.log (smallK (Ideal.div (min ax (fl 0x40700000#32)) (fl 0x40700000#32) * Ideal.div (min ax (fl 0x40700000#32)) (fl 0x40700000#32)))
  else
    max ax (fl 0x40700000#32) - fl 0x3F000000#32 * Ideal.log (max ax (fl 0x40700000#32))
      + Ideal.log (largeK (Ideal.div (fl 0x40700000#32) (max ax (fl 0x40700000#32))))

/-- The reference's small-argument series. -/
def smallR (ax : EReal) : EReal :=
  let u := Ideal.div ax (fl 0x40700000#32)
  let u2 := u * u
  let u4 := u2 * u2
  let u6 := u2 * u4
  let u8 := u4 * u4
  let u10 := u2 * u8
  let u12 := u4 * u8
  1 + fl 0x4060FFF7#32 * u2 + fl 0x4045C19E#32 * u4 + fl 0x3F9A76C2#32 * u6 + fl 0x3E882DA4#32 * u8 + fl 0x3D13C544#32 * u10 + fl 0x3B961EBB#32 * u12

/-- The reference's large-argument series. -/
def largeR (ax : EReal) : EReal :=
  let u := Ideal.div (fl 0x40700000#32) ax
  let u2 := u * u
  let u3 := u2 * u
  let u4 := u2 * u2
  let u5 := u * u4
  let u6 := u2 * u4
  let u7 := u * u2 * u4
  let u8 := u4 * u4
  fl 0x3ECC422A#32 + fl 0x3C59AD30#32 * u + fl 0x3B13AA41#32 * u2 + fl 0xBACE860A#32 * u3 + fl 0x3C161F9C#32 * u4 + fl 0xBCA89139#32 * u5 + fl 0x3CD7E738#32 * u6 + fl 0xBC86F95E#32 * u7 + fl 0x3B8092F8#32 * u8

/-- The reference's logarithm of the Bessel function at `ax ≥ 0`: the logarithm of the scaled function, and `ax` again. -/
def logI0R (ax : EReal) : EReal :=
  Ideal.log (if ax ≤ fl 0x40700000#32 then Ideal.exp (-ax) * smallR ax else Ideal.div (largeR ax) (Ideal.sqrt ax)) + ax

theorem log_pos {r : ℝ} (h : 0 < r) : Ideal.log (r : EReal) = ((Real.log r : ℝ) : EReal) := if_neg (not_le.mpr h)
theorem log_nonpos {r : ℝ} (h : r ≤ 0) : Ideal.log (r : EReal) = ⊥ := if_pos h
theorem sqrt_nonneg {r : ℝ} (h : 0 ≤ r) : Ideal.sqrt (r : EReal) = ((Real.sqrt r : ℝ) : EReal) := if_neg (not_lt.mpr h)

/-- The small-argument polynomial at a real argument is a real number, in both forms the same. -/
theorem small_eq (a : ℝ) : ∃ s : ℝ, smallR (a : EReal) = (s : EReal)
    ∧ smallK (Ideal.div (a : EReal) (fl 0x40700000#32) * Ideal.div (a : EReal) (fl 0x40700000#32)) = (s : EReal) := by
  obtain ⟨c1, h1⟩ := small1
  obtain ⟨c2, h2⟩ := small2
  obtain ⟨c3, h3⟩ := small3
  obtain ⟨c4, h4⟩ := small4
  obtain ⟨c5, h5⟩ := small5
  obtain ⟨c6, h6⟩ := small6
  have e1 : (1 : EReal) = ((1 : ℝ) : EReal) := rfl
  have hd : Ideal.div (a : EReal) (fl 0x40700000#32) = ((a * (1 / 3.75) : ℝ) : EReal) := by
    rw [fl_cut, Ideal.div_coe (by norm_num), ← EReal.coe_mul]
  refine ⟨(1 + (a * (1 / 3.75) * (a * (1 / 3.75))) * (c1 + (a * (1 / 3.75) * (a * (1 / 3.75))) * (c2 + (a * (1 / 3.75) * (a * (1 / 3.75))) * (c3 + (a * (1 / 3.75) * (a * (1 / 3.75))) * (c4 + (a * (1 / 3.75) * (a * (1 / 3.75))) * (c5 + (a * (1 / 3.75) * (a * (1 / 3.75))) * c6)))))), ?_, ?_⟩
  · simp only [smallR, hd, h1, h2, h3, h4, h5, h6, e1, ← EReal.coe_mul, ← EReal.coe_add]
    congr 1
    ring
  · simp only [smallK, hd, h1, h2, h3, h4, h5, h6, e1, ← EReal.coe_mul, ← EReal.coe_add]

/-- The large-argument polynomial at a positive real argument likewise. -/
theorem large_eq (a : ℝ) (ha : a ≠ 0) : ∃ s : ℝ, largeR (a : EReal) = (s : EReal)
    ∧ largeK (Ideal.div (fl 0x40700000#32) (a : EReal)) = (s : EReal) := by
  obtain ⟨c0, h0⟩ := large0
  obtain ⟨c1, h1⟩ := large1
  obtain ⟨c2, h2⟩ := large2
  obtain ⟨c3, h3⟩ := large3
  obtain ⟨c4, h4⟩ := large4
  obtain ⟨c5, h5⟩ := large5
  obtain ⟨c6, h6⟩ := large6
  obtain ⟨c7, h7⟩ := large7
  obtain ⟨c8, h8⟩ := large8
  have hd : Ideal.div (fl 0x40700000#32) (a : EReal) = ((3.75 * (1 / a) : ℝ) : EReal) := by
    rw [fl_cut, Ideal.div_coe ha, ← EReal.coe_mul]
  refine ⟨(c0 + (3.75 * (1 / a)) * (c1 + (3.75 * (1 / a)) * (c2 + (3.75 * (1 / a)) * (c3 + (3.75 * (1 / a)) * (c4 + (3.75 * (1 / a)) * (c5 + (3.75 * (1 / a)) * (c6 + (3.75 * (1 / a)) * (c7 + (3.75 * (1 / a)) * c8)))))))), ?_, ?_⟩
  · simp only [largeR, hd, h0, h1, h2, h3, h4, h5, h6, h7, h8, ← EReal.coe_mul, ← EReal.coe_add]
    congr 1
    ring
  · simp only [largeK, hd, h0, h1, h2, h3, h4, h5, h6, h7, h8, ← EReal.coe_mul, ← EReal.coe_add]

/-- The reference's large-argument series at `⊤` is a real number. -/
theorem largeR_top : ∃ s : ℝ, largeR ⊤ = (s : EReal) := by
  obtain ⟨c0, h0⟩ := large0
  obtain ⟨c1, h1⟩ := large1
  obtain ⟨c2, h2⟩ := large2
  obtain ⟨c3, h3⟩ := large3
  obtain ⟨c4, h4⟩ := large4
  obtain ⟨c5, h5⟩ := large5
  obtain ⟨c6, h6⟩ := large6
  obtain ⟨c7, h7⟩ := large7
  obtain ⟨c8, h8⟩ := large8
  have e0 : (0 : EReal) = ((0 : ℝ) : EReal) := rfl
  have hd : Ideal.div (fl 0x40700000#32) ⊤ = 0 := by
    rw [Ideal.div, if_neg (by simp), EReal.inv_top, mul_zero]
  refine ⟨c0, ?_⟩
  simp only [largeR, hd, h0, h1, h2, h3, h4, h5, h6, h7, h8, e0, ← EReal.coe_mul, ← EReal.coe_add]
  congr 1
  ring

/-- The two logarithms of the Bessel function agree. -/
theorem logI0_eq (ax : EReal) (h : 0 ≤ ax) : logI0K ax = logI0R ax := by
  induction ax using EReal.rec with
  | bot => exact absurd h (by simp)
  | top =>
    have hc : ¬ ((⊤ : EReal) ≤ fl 0x40700000#32) := by rw [fl_cut]; simp
    have hm : max (⊤ : EReal) (fl 0x40700000#32) = ⊤ := max_eq_left le_top
    have hk : logI0K ⊤ = ⊥ := by
      rw [logI0K, if_neg hc, hm]
      rw [show Ideal.log ⊤ = ⊤ from rfl, fl_half, EReal.coe_mul_top_of_pos (by norm_num), show (⊤ : EReal) - ⊤ = ⊥ from rfl, EReal.bot_add]
    have hr : logI0R ⊤ = ⊥ := by
      obtain ⟨s, hs⟩ := largeR_top
      rw [logI0R, if_neg hc, show Ideal.sqrt ⊤ = ⊤ from rfl, hs]
      rw [Ideal.div, if_neg (by simp), EReal.inv_top, mul_zero, show (0 : EReal) = ((0 : ℝ) : EReal) from rfl, log_nonpos le_rfl, EReal.bot_add]
    rw [hk, hr]
  | coe a =>
    have ha : 0 ≤ a := by exact_mod_cast h
    by_cases hc : (a : EReal) ≤ fl 0x40700000#32
    · obtain ⟨s, hR, hK⟩ := small_eq a
      rw [logI0K, if_pos hc, min_eq_left hc, hK, logI0R, if_pos hc, hR, ← EReal.coe_neg]
      rw [show Ideal.exp ((-a : ℝ) : EReal) = ((Real.exp (-a) : ℝ) : EReal) from rfl, ← EReal.coe_mul]
      by_cases hs : 0 < s
      · rw [log_pos hs, log_pos (by positivity), ← EReal.coe_add, Real.log_mul (Real.exp_ne_zero _) hs.ne', Real.log_exp]
        congr 1
        ring
      · rw [log_nonpos (not_lt.mp hs), log_nonpos (mul_nonpos_of_nonneg_of_nonpos (Real.exp_pos _).le (not_lt.mp hs)), EReal.bot_add]
    · have hlt : (3.75 : ℝ) < a := by
        rw [fl_cut] at hc
        exact_mod_cast not_le.mp hc
      have hpos : 0 < a := by linarith
      obtain ⟨s, hR, hK⟩ := large_eq a hpos.ne'
      rw [logI0K, if_neg hc, max_eq_left (not_le.mp hc).le, hK, logI0R, if_neg hc, hR, sqrt_nonneg ha, log_pos hpos, fl_half,
        Ideal.div_coe (Real.sqrt_pos.mpr hpos).ne', ← EReal.coe_mul, ← EReal.coe_mul, ← EReal.coe_sub]
      have hq : 0 < 1 / Real.sqrt a := by positivity
      by_cases hs : 0 < s
      · rw [log_pos hs, log_pos (mul_pos hs hq), ← EReal.coe_add, ← EReal.coe_add, Real.log_mul hs.ne' hq.ne', one_div (Real.sqrt a), Real.log_inv,
          Real.log_sqrt ha]
        congr 1
        ring
      · rw [log_nonpos (not_lt.mp hs), log_nonpos (mul_nonpos_of_nonpos_of_nonneg (not_lt.mp hs) hq.le), EReal.bot_add, EReal.add_bot]

/-! ## The logarithm of the hyperbolic cosine -/

/-- The absolute value. -/
abbrev absv (x : EReal) : EReal := max x (-x)

theorem absv_nonneg (x : EReal) : 0 ≤ absv x := by
  rcases le_total 0 x with h | h
  · exact le_max_of_le_left h
  · exact le_max_of_le_right (by rw [EReal.le_neg]; simpa using h)

theorem absv_coe (r : ℝ) : absv (r : EReal) = ((|r| : ℝ) : EReal) := by
  rw [absv, ← EReal.coe_neg]
  rcases le_total 0 r with h | h
  · rw [abs_of_nonneg h, max_eq_left (EReal.coe_le_coe_iff.mpr (by linarith))]
  · rw [abs_of_nonpos h, max_eq_right (EReal.coe_le_coe_iff.mpr (by linarith))]

/-- The kernel's: from the absolute value of the argument. -/
def logCoshK (a : EReal) : EReal := a + Ideal.log (1 + Ideal.exp (fl 0xC0000000#32 * a)) - Ideal.log (fl 0x40000000#32)

/-- The reference's: `logaddexp` of the argument and its negative, as the host library computes it. -/
def logCoshR (c : EReal) : EReal :=
  (if c - -c ≠ c - -c then c + -c else max c (-c) + Ideal.log1p (Ideal.exp (-absv (c - -c)))) - Ideal.log (fl 0x40000000#32)

theorem logCosh_eq (c : EReal) : logCoshK (absv c) = logCoshR c := by
  unfold logCoshK logCoshR
  rw [if_neg (fun h => h rfl)]
  congr 1
  show absv c + Ideal.log (1 + Ideal.exp (fl 0xC0000000#32 * absv c)) = absv c + Ideal.log (1 + Ideal.exp (-absv (c - -c)))
  have key : fl 0xC0000000#32 * absv c = -absv (c - -c) := by
    induction c using EReal.rec with
    | bot =>
      rw [show absv ⊥ = ⊤ from by simp [absv], show absv ((⊥ : EReal) - -⊥) = ⊤ from by simp [absv], fl_neg_two,
        EReal.coe_mul_top_of_neg (by norm_num), EReal.neg_top]
    | top =>
      rw [show absv ⊤ = ⊤ from by simp [absv], show absv ((⊤ : EReal) - -⊤) = ⊤ from by simp [absv], fl_neg_two,
        EReal.coe_mul_top_of_neg (by norm_num), EReal.neg_top]
    | coe r =>
      rw [← EReal.coe_neg, ← EReal.coe_sub, absv_coe, absv_coe, fl_neg_two, ← EReal.coe_mul, ← EReal.coe_neg]
      congr 1
      rw [show r - -r = 2 * r from by ring, abs_mul, abs_of_pos (by norm_num : (0 : ℝ) < 2)]
      ring
  rw [key]

/-! ## The likelihoods -/

/-- The variance factor. -/
def var (d : EReal) : EReal := 1 - d * d
/-- The weighted sum of the intensities. -/
def weighted (eo ec d : EReal) : EReal := d * d * (eo * eo + ec * ec)
/-- The argument of the Bessel function. -/
def argA (eo ec d : EReal) : EReal := Ideal.div (fl 0x40000000#32 * d * eo * ec) (var d)

/-- Half that argument, as the reference computes the argument of the hyperbolic cosine. -/
theorem half_argA (eo ec d : EReal) : fl 0x3F000000#32 * argA eo ec d = Ideal.div (d * eo * ec) (var d) := by
  unfold argA
  rw [show fl 0x40000000#32 * d * eo * ec = fl 0x40000000#32 * (d * eo * ec) from by simp only [mul_assoc]]
  generalize d * eo * ec = x
  generalize var d = t
  rw [fl_half, fl_two, Ideal.div, Ideal.div]
  have h12 : (((1/2 : ℝ) : EReal)) * ((2 : ℝ) : EReal) = 1 := by rw [← EReal.coe_mul]; norm_num
  split_ifs with h0 h1 h2 h2
  · exact EReal.coe_mul_top_of_pos (by norm_num)
  · refine absurd ?_ h2
    by_contra hx
    rw [not_lt] at hx
    exact absurd h1 (not_lt.mpr (mul_nonpos_of_nonneg_of_nonpos (by norm_num) hx))
  · exact absurd (EReal.mul_pos (by norm_num) h2) h1
  · exact EReal.coe_mul_bot_of_pos (by norm_num)
  · rw [mul_assoc, ← mul_assoc, h12, one_mul]

/-- The kernel's likelihood of an acentric reflection, from its normalised amplitudes and its figure of merit. -/
def acentricK (eo ec d : EReal) : EReal :=
  0 - Ideal.log (var d) - Ideal.div (weighted eo ec d) (var d) + logI0K (absv (argA eo ec d))
/-- The reference's. -/
def acentricR (eo ec d : EReal) : EReal :=
  -Ideal.log (var d) - Ideal.div (weighted eo ec d) (var d) + logI0R (absv (argA eo ec d))
/-- The kernel's likelihood of a centric reflection. -/
def centricK (eo ec d : EReal) : EReal :=
  fl 0xBF000000#32 * Ideal.log (var d) - Ideal.div (weighted eo ec d) (fl 0x40000000#32 * var d) + logCoshK (absv (fl 0x3F000000#32 * argA eo ec d))
/-- The reference's. -/
def centricR (eo ec d : EReal) : EReal :=
  fl 0xBF000000#32 * Ideal.log (var d) - Ideal.div (weighted eo ec d) (fl 0x40000000#32 * var d) + logCoshR (Ideal.div (d * eo * ec) (var d))

theorem acentric_eq (eo ec d : EReal) : acentricK eo ec d = acentricR eo ec d := by
  unfold acentricK acentricR
  rw [logI0_eq _ (absv_nonneg _), zero_sub]

theorem centric_eq (eo ec d : EReal) : centricK eo ec d = centricR eo ec d := by
  unfold centricK centricR
  rw [half_argA, logCosh_eq]

end Cert.Score

end
-- ==== Proof.Kern.lean ====
/- The stages of the kernel body read at an index, over the extended reals. -/
module

public import proofs.«01_k».proof.Proof.Scalar
public import proofs.«01_k».proof.Proof.Out
public import Idealize.ShloMosaic.Lib.StableHlo.Predicate

@[expose] public section

set_option maxRecDepth 16384

noncomputable section

open Idealize.ShloMosaic Idealize.ShloMosaic.TcCoe Idealize.SL.Sem

namespace Cert.KernelIdeal.Body
open Cert.KernelIdeal Cert.KernelIdeal.Gen Cert.Score

/-! The named constants. -/

theorem named_taylor_10 : Named.named (F := Ideal) κ "taylor_10" (φ := .f32) 0xB493F27E#32 = ((-1 / 3628800 : ℝ) : EReal) :=
  IdealRules.named_const.ideal_named_scalar _ _ _ _ rfl
theorem named_taylor_11 : Named.named (F := Ideal) κ "taylor_11" (φ := .f32) 0xB2D7322B#32 = ((-1 / 39916800 : ℝ) : EReal) :=
  IdealRules.named_const.ideal_named_scalar _ _ _ _ rfl
theorem named_taylor_12 : Named.named (F := Ideal) κ "taylor_12" (φ := .f32) 0x310F76C7#32 = ((1 / 479001600 : ℝ) : EReal) :=
  IdealRules.named_const.ideal_named_scalar _ _ _ _ rfl
theorem named_taylor_13 : Named.named (F := Ideal) κ "taylor_13" (φ := .f32) 0x2F309231#32 = ((1 / 6227020800 : ℝ) : EReal) :=
  IdealRules.named_const.ideal_named_scalar _ _ _ _ rfl
theorem named_taylor_14 : Named.named (F := Ideal) κ "taylor_14" (φ := .f32) 0xAD49CBA5#32 = ((-1 / 87178291200 : ℝ) : EReal) :=
  IdealRules.named_const.ideal_named_scalar _ _ _ _ rfl
theorem named_taylor_3 : Named.named (F := Ideal) κ "taylor_3" (φ := .f32) 0xBE2AAAAB#32 = ((-1 / 6 : ℝ) : EReal) :=
  IdealRules.named_const.ideal_named_scalar _ _ _ _ rfl
theorem named_taylor_4 : Named.named (F := Ideal) κ "taylor_4" (φ := .f32) 0x3D2AAAAB#32 = ((1 / 24 : ℝ) : EReal) :=
  IdealRules.named_const.ideal_named_scalar _ _ _ _ rfl
theorem named_taylor_5 : Named.named (F := Ideal) κ "taylor_5" (φ := .f32) 0x3C088889#32 = ((1 / 120 : ℝ) : EReal) :=
  IdealRules.named_const.ideal_named_scalar _ _ _ _ rfl
theorem named_taylor_6 : Named.named (F := Ideal) κ "taylor_6" (φ := .f32) 0xBAB60B61#32 = ((-1 / 720 : ℝ) : EReal) :=
  IdealRules.named_const.ideal_named_scalar _ _ _ _ rfl
theorem named_taylor_7 : Named.named (F := Ideal) κ "taylor_7" (φ := .f32) 0xB9500D01#32 = ((-1 / 5040 : ℝ) : EReal) :=
  IdealRules.named_const.ideal_named_scalar _ _ _ _ rfl
theorem named_taylor_8 : Named.named (F := Ideal) κ "taylor_8" (φ := .f32) 0x37D00D01#32 = ((1 / 40320 : ℝ) : EReal) :=
  IdealRules.named_const.ideal_named_scalar _ _ _ _ rfl
theorem named_taylor_9 : Named.named (F := Ideal) κ "taylor_9" (φ := .f32) 0x3638EF1D#32 = ((1 / 362880 : ℝ) : EReal) :=
  IdealRules.named_const.ideal_named_scalar _ _ _ _ rfl
theorem named_two_pi : Named.named (F := Ideal) κ "two_pi" (φ := .f32) 0x40C90FDB#32 = ((2 * Real.pi : ℝ) : EReal) :=
  IdealRules.named_const.ideal_named_scalar _ _ _ _ rfl

/-! ## The amplitude -/

theorem turns_at (x : Vec Ideal S256x3 .f32) (h : Vec Ideal S3x3200 .f32) (a : Fin 256) (j : Fin 3200) :
    turns (F := Ideal) x h (ix2 a j) = ∑ k : Fin 3, x (ix2 a k) * h (ix2 k j) := by
  pointwise [turns]

theorem phase_at (d : FVec Ideal S256x3200 .f32) (a : Fin 256) (j : Fin 3200) :
    phase (F := Ideal) d (ix2 a j) = Score.phase (d (ix2 a j)) := by
  unfold Score.phase
  rw [← named_two_pi]
  pointwise [phase]

theorem cosHorner_at (p : FVec Ideal S256x3200 .f32) (a : Fin 256) (j : Fin 3200) :
    cosHorner (F := Ideal) (mulf p p) (ix2 a j) = cosK (p (ix2 a j)) := by
  unfold cosK
  simp only [← named_taylor_10, ← named_taylor_12, ← named_taylor_14, ← named_taylor_4, ← named_taylor_6, ← named_taylor_8]
  pointwise [cosHorner]

theorem sinHorner_at (p : FVec Ideal S256x3200 .f32) (a : Fin 256) (j : Fin 3200) :
    mulf p (sinHorner (F := Ideal) (mulf p p)) (ix2 a j) = sinK (p (ix2 a j)) := by
  unfold sinK
  simp only [← named_taylor_11, ← named_taylor_13, ← named_taylor_3, ← named_taylor_5, ← named_taylor_7, ← named_taylor_9]
  pointwise [sinHorner]

theorem overAtoms_at (v : FVec Ideal S256x3200 .f32) (j : Fin 3200) :
    overAtoms (F := Ideal) v (ix2 (0 : Fin 1) j) = ∑ a : Fin 256, v (ix2 a j) := by
  pointwise [overAtoms]

/-- The amplitude of a reflection of a block. -/
theorem amp_at (x : Vec Ideal S256x3 .f32) (h : Vec Ideal S3x3200 .f32) (j : Fin 3200) :
    amp (F := Ideal) x h (ix2 (0 : Fin 1) j)
      = Ideal.sqrt ((∑ a : Fin 256, cosK (Score.phase (turns (F := Ideal) x h (ix2 a j))))
            * (∑ a : Fin 256, cosK (Score.phase (turns (F := Ideal) x h (ix2 a j))))
          + (∑ a : Fin 256, sinK (Score.phase (turns (F := Ideal) x h (ix2 a j))))
            * (∑ a : Fin 256, sinK (Score.phase (turns (F := Ideal) x h (ix2 a j)))) + fl 0x2B8CBCCC#32) := by
  have hc : overAtoms (F := Ideal) (cosHorner (mulf (phase (turns (F := Ideal) x h)) (phase (turns (F := Ideal) x h)))) (ix2 (0 : Fin 1) j)
      = ∑ a : Fin 256, cosK (Score.phase (turns (F := Ideal) x h (ix2 a j))) := by
    rw [overAtoms_at]
    exact Finset.sum_congr rfl fun a _ => by rw [cosHorner_at, phase_at]
  have hs : overAtoms (F := Ideal) (mulf (phase (turns (F := Ideal) x h))
        (sinHorner (mulf (phase (turns (F := Ideal) x h)) (phase (turns (F := Ideal) x h))))) (ix2 (0 : Fin 1) j)
      = ∑ a : Fin 256, sinK (Score.phase (turns (F := Ideal) x h (ix2 a j))) := by
    rw [overAtoms_at]
    exact Finset.sum_congr rfl fun a _ => by rw [sinHorner_at, phase_at]
  rw [← hc, ← hs]
  pointwise [amp, ampOfPhase, modulus]

/-! ## The sums over the bins -/

/-- The choice by an equality of a bin's number with a label. -/
theorem select_hit (b : Fin 32) (w : BitVec 32) (x : EReal) :
    Scalar.select (IntOp.cmpi .eq (BitVec.ofNat 32 b.val) w) x 0 = if w.toInt = (b.val : Int) then x else 0 := by
  have e : (BitVec.ofNat 32 b.val = w) ↔ w.toInt = (b.val : Int) := by
    have hb := b.isLt
    have h1 : (BitVec.ofNat 32 b.val).toInt = (b.val : Int) := StableHlo.Predicate.toInt_ofNat_small _ (by omega)
    rw [← h1]
    exact ⟨fun h => by rw [h], fun h => (BitVec.eq_of_toInt_eq h).symm⟩
  by_cases h : BitVec.ofNat 32 b.val = w
  · rw [if_pos (e.1 h)]
    have : IntOp.cmpi .eq (BitVec.ofNat 32 b.val) w = 1#1 := by rw [h]; simp [IntOp.cmpi]
    rw [this]; rfl
  · rw [if_neg (fun h' => h (e.2 h'))]
    have : IntOp.cmpi .eq (BitVec.ofNat 32 b.val) w = 0#1 := by
      show BitVec.ofBool (_ == _) = 0#1
      rw [beq_false_of_ne h]; rfl
    rw [this]; rfl

theorem addHits_at (acc : FVec Ideal S32x3200 .f32) (lab : Vec Ideal S1x3200 .i32) (v : FVec Ideal S1x3200 .f32) (b : Fin 32) (j : Fin 3200) :
    addHits (F := Ideal) acc lab v (ix2 b j) = acc (ix2 b j)
      + if (lab (ix2 (0 : Fin 1) j)).toInt = (b.val : Int) then v (ix2 (0 : Fin 1) j) else 0 := by
  rw [← select_hit]
  pointwise [addHits, hits]

/-- A run of blocks: the running sum at an entry is the sum of the blocks' entries. -/
theorem foldl_hits (lab : Fin 16 → Vec Ideal S1x3200 .i32) (v : Fin 16 → FVec Ideal S1x3200 .f32) (b : Fin 32) (j : Fin 3200)
    (l : List (Fin 16)) (acc : FVec Ideal S32x3200 .f32) :
    l.foldl (fun acc i => addHits (F := Ideal) acc (lab i) (v i)) acc (ix2 b j) = acc (ix2 b j)
      + (l.map fun i => if (lab i (ix2 (0 : Fin 1) j)).toInt = (b.val : Int) then v i (ix2 (0 : Fin 1) j) else 0).sum := by
  induction l generalizing acc with
  | nil => simp
  | cons i l ih =>
    rw [List.foldl_cons, ih, addHits_at, List.map_cons, List.sum_cons, add_assoc]

theorem zeros_at (b : Fin 32) (j : Fin 3200) : lit (F := Ideal) S32x3200 0x00000000#32 (ix2 b j) = 0 := by
  pointwise [lit]

/-- The sums of the intensities, lane by lane. -/
theorem segAll_at (x : Vec Ideal S256x3 .f32) (h : Vec Ideal S3x51200 .f32) (eps valid : Vec Ideal S16x3200 .f32)
    (lab : Vec Ideal S16x3200 .i32) (b : Fin 32) (j : Fin 3200) :
    segAll (F := Ideal) x h eps valid lab (ix2 b j) = ∑ i : Fin 16, if (lab (ix2 i j)).toInt = (b.val : Int) then
      Ideal.div (ampAll (F := Ideal) x h (ix2 i j) * ampAll (F := Ideal) x h (ix2 i j)) (eps (ix2 i j)) * valid (ix2 i j) else 0 := by
  have hi (i : Fin 16) : intensity (F := Ideal) (amp x (colBlock h i)) (rowBlock eps i) (rowBlock valid i) (ix2 (0 : Fin 1) j)
      = Ideal.div (ampAll (F := Ideal) x h (ix2 i j) * ampAll (F := Ideal) x h (ix2 i j)) (eps (ix2 i j)) * valid (ix2 i j) := by
    have e : ampAll (F := Ideal) x h (ix2 i j) = amp x (colBlock h i) (ix2 (0 : Fin 1) j) := rfl
    have e1 : eps (ix2 i j) = rowBlock eps i (ix2 (0 : Fin 1) j) := rfl
    have e2 : valid (ix2 i j) = rowBlock valid i (ix2 (0 : Fin 1) j) := rfl
    rw [e, e1, e2]
    pointwise [intensity]
  unfold segAll segStep
  refine (foldl_hits (fun i => rowBlock lab i) (fun i => intensity (amp x (colBlock h i)) (rowBlock eps i) (rowBlock valid i)) b j _ _).trans ?_
  rw [zeros_at, zero_add, Fin.sum_univ_def]
  refine congrArg List.sum (List.map_congr_left fun i _ => ?_)
  rw [hi]
  rfl

/-- The counts, lane by lane. -/
theorem cntAll_at (valid : Vec Ideal S16x3200 .f32) (lab : Vec Ideal S16x3200 .i32) (b : Fin 32) (j : Fin 3200) :
    cntAll (F := Ideal) valid lab (ix2 b j) = ∑ i : Fin 16, if (lab (ix2 i j)).toInt = (b.val : Int) then valid (ix2 i j) else 0 := by
  have hi (i : Fin 16) : shapeCast S1x3200 (rowBlock valid i) shapeCasts_S1x3200_S1x3200 (ix2 (0 : Fin 1) j) = valid (ix2 i j) := by
    have e2 : valid (ix2 i j) = rowBlock valid i (ix2 (0 : Fin 1) j) := rfl
    rw [e2]
    pointwise
  unfold cntAll cntStep
  refine (foldl_hits (fun i => rowBlock lab i) (fun i => shapeCast S1x3200 (rowBlock valid i) shapeCasts_S1x3200_S1x3200) b j _ _).trans ?_
  rw [zeros_at, zero_add, Fin.sum_univ_def]
  refine congrArg List.sum (List.map_congr_left fun i _ => ?_)
  rw [hi]
  rfl

/-- The mean intensity of a bin. -/
theorem binMean_at (seg cnt : FVec Ideal S32x3200 .f32) (b : Fin 32) : binMean (F := Ideal) seg cnt (ix2 b (0 : Fin 1))
    = Ideal.div (∑ j : Fin 3200, seg (ix2 b j)) (max (∑ j : Fin 3200, cnt (ix2 b j)) 1) := by
  pointwise [binMean, overLanes]

/-- The clipped figure of merit of a bin. -/
theorem clipped_at (sa : Vec Ideal S32x1 .f32) (b : Fin 32) : clipped (F := Ideal) sa (ix2 b (0 : Fin 1))
    = min (fl 0x3F7D70A4#32) (max (fl 0x3C75C28F#32) (sa (ix2 b (0 : Fin 1)))) := by
  pointwise [clipped]

/-! ## The choice by label -/

/-- One step of the choice. -/
theorem pickStep_at (lab : IVec S16x3200 32) (k : BitVec 32) (v : FVec Ideal S1x1 .f32) (acc : FVec Ideal S16x3200 .f32) (i : Fin 16) (j : Fin 3200) :
    pickStep (F := Ideal) lab k v acc (ix2 i j) = if lab (ix2 i j) = k then v (ix2 (0 : Fin 1) (0 : Fin 1)) else acc (ix2 i j) := by
  have e : pickStep (F := Ideal) lab k v acc (ix2 i j)
      = Scalar.select (IntOp.cmpi .eq (lab (ix2 i j)) k) (v (ix2 (0 : Fin 1) (0 : Fin 1))) (acc (ix2 i j)) := by
    pointwise [pickStep]
  rw [e]
  split_ifs with h
  · have : IntOp.cmpi .eq (lab (ix2 i j)) k = 1#1 := by rw [h]; simp [IntOp.cmpi]
    rw [this]; rfl
  · have : IntOp.cmpi .eq (lab (ix2 i j)) k = 0#1 := by
      show BitVec.ofBool (_ == _) = 0#1
      rw [beq_false_of_ne h]; rfl
    rw [this]; rfl

/-- The choice: where the label is `b`, the value of bin `b`. -/
theorem pick_at (lab : IVec S16x3200 32) (v : FVec Ideal S32x1 .f32) (i : Fin 16) (j : Fin 3200) (b : Fin 20)
    (h : lab (ix2 i j) = BitVec.ofNat 32 b.val) :
    pick (F := Ideal) lab v (ix2 i j) = v (ix2 (⟨b.val, by omega⟩ : Fin 32) (0 : Fin 1)) := by
  have hs (k : ℕ) (hk : k < 32) (sl : S32x1.Slices ![k, 0] S1x1) :
      extractStridedSlice S1x1 ![k, 0] v sl (ix2 (0 : Fin 1) (0 : Fin 1)) = v (ix2 (⟨k, hk⟩ : Fin 32) (0 : Fin 1)) := by
    refine congrArg v (funext fun a => Fin.ext ?_)
    match a with
    | ⟨0, _⟩ => rfl
    | ⟨1, _⟩ => rfl
  unfold pick
  simp only [pickStep_at, h]
  fin_cases b <;> simp [hs]

/-! ## The likelihoods -/

variable (fm sp sg eo eps dobs cent ec d ax : FVec Ideal S16x3200 .f32) (i : Fin 16) (j : Fin 3200)

theorem logI0_at : logI0 (F := Ideal) ax (ix2 i j) = logI0K (ax (ix2 i j)) := by
  unfold logI0K smallK largeK
  pointwise [logI0, smallVar, smallI0, largeI0, logLarge]

theorem logCosh_at : logCosh (F := Ideal) ax (ix2 i j) = logCoshK (ax (ix2 i j)) := by
  unfold logCoshK
  pointwise [logCosh]
  rfl

theorem argA_at : argA (F := Ideal) eo ec d (ix2 i j) = Score.argA (eo (ix2 i j)) (ec (ix2 i j)) (d (ix2 i j)) := by
  unfold Score.argA var
  pointwise [argA, variance]

theorem acentric_at : acentric (F := Ideal) eo ec d (ix2 i j) = acentricK (eo (ix2 i j)) (ec (ix2 i j)) (d (ix2 i j)) := by
  have e : logI0 (F := Ideal) (absf (argA eo ec d)) (ix2 i j) = logI0K (absv (Score.argA (eo (ix2 i j)) (ec (ix2 i j)) (d (ix2 i j)))) := by
    rw [logI0_at, ← argA_at]
    rfl
  unfold acentricK
  rw [← e]
  unfold var Score.weighted
  pointwise [acentric, variance, weighted]

theorem centric_at : centric (F := Ideal) eo ec d (ix2 i j) = centricK (eo (ix2 i j)) (ec (ix2 i j)) (d (ix2 i j)) := by
  have e : logCosh (F := Ideal) (absf (mulf (lit S16x3200 0x3F000000#32) (argA eo ec d))) (ix2 i j)
      = logCoshK (absv (fl 0x3F000000#32 * Score.argA (eo (ix2 i j)) (ec (ix2 i j)) (d (ix2 i j)))) := by
    rw [logCosh_at, ← argA_at]
    rfl
  unfold centricK
  rw [← e]
  unfold var Score.weighted
  pointwise [centric, variance, weighted]

theorem ecalc_at : ecalc (F := Ideal) fm eps sp (ix2 i j) = Ideal.div (fm (ix2 i j)) (Ideal.sqrt (eps (ix2 i j) * sp (ix2 i j))) := by
  pointwise [ecalc]

/-- The likelihood of a reflection. -/
theorem llg_at : llg (F := Ideal) fm sp sg eo eps dobs cent (ix2 i j)
    = if cent (ix2 i j) ≠ 0 then
        centricK (eo (ix2 i j)) (Ideal.div (fm (ix2 i j)) (Ideal.sqrt (eps (ix2 i j) * sp (ix2 i j)))) (dobs (ix2 i j) * sg (ix2 i j))
      else acentricK (eo (ix2 i j)) (Ideal.div (fm (ix2 i j)) (Ideal.sqrt (eps (ix2 i j) * sp (ix2 i j)))) (dobs (ix2 i j) * sg (ix2 i j)) := by
  rw [← ecalc_at]
  have ed : dobs (ix2 i j) * sg (ix2 i j) = (mulf dobs sg) (ix2 i j) := rfl
  rw [ed, ← acentric_at, ← centric_at]
  pointwise [llg]

theorem total_at (v : FVec Ideal S16x3200 .f32) : total (F := Ideal) v (ix2 (0 : Fin 1) (0 : Fin 1)) = ∑ i : Fin 16, ∑ j : Fin 3200, v (ix2 i j) := by
  pointwise [total]

end Cert.KernelIdeal.Body

end
-- ==== Proof.Ref.lean ====
/- The reference at one reflection, in the arithmetic of Score. -/
module

public import proofs.«01_k».proof.Proof.Scalar
public import proofs.«01_k».proof.Proof.Gen.ReferenceIdeal.Read
public import Idealize.ShloMosaic.Lib.Pipeline.ValueKit

@[expose] public section

set_option maxRecDepth 16384

noncomputable section

open Idealize.ShloMosaic Idealize.ShloMosaic.TcCoe Idealize.SL.Sem

namespace Cert.ReferenceIdeal.Read
open Cert.ReferenceIdeal Cert.ReferenceIdeal.Gen Cert.Score

variable (x0 : (⟨S256x3, .f32⟩ : BufTy).Contents (Elt Ideal)) (x1 x2 x3 : (⟨S50000, .f32⟩ : BufTy).Contents (Elt Ideal))
  (x4 : (⟨S20, .f32⟩ : BufTy).Contents (Elt Ideal)) (x5 : (⟨S50000, .i1⟩ : BufTy).Contents (Elt Ideal))
  (x6 : (⟨S50000, .i32⟩ : BufTy).Contents (Elt Ideal)) (x7 : (⟨S50000x3, .i32⟩ : BufTy).Contents (Elt Ideal))
  (x8 : (⟨S50000, .i1⟩ : BufTy).Contents (Elt Ideal))

/-- The turns of an atom in a reflection. -/
theorem turns_at (n : Fin 50000) (a : Fin 256) : val_main_v4 (F := Ideal) x0 x7 (ix2 n a)
    = ∑ k : Fin 3, FloatOps.sitofp (F := Ideal) .f32 (x7 (ix2 n k)) * val_main_v1 (F := Ideal) x0 (ix2 a k) := by
  pointwise [val_main_v2, val_main_v3, val_main_v4]

/-- Its phase. -/
theorem phase_at (n : Fin 50000) (a : Fin 256) : val_main_v11 (F := Ideal) x0 x7 (ix2 n a)
    = phase (val_main_v4 (F := Ideal) x0 x7 (ix2 n a)) := by
  have h6 : val_main_v6 (F := Ideal) ix0 = fl 0x41000000#32 * Ideal.atan 1 := by pointwise [val_main_cst_0, val_main_v5, val_main_cst_1, val_main_v6]
  unfold phase
  rw [← two_pi_eq, ← h6]
  pointwise [val_main_v7, val_main_v8, val_main_v9, val_main_v10, val_main_v11]
  rfl

/-- The cosine of its phase. -/
theorem cos_at (n : Fin 50000) (a : Fin 256) : val_main_v54 (F := Ideal) x0 x7 (ix2 n a)
    = cosR (val_main_v11 (F := Ideal) x0 x7 (ix2 n a)) := by
  unfold cosR
  pointwise [val_main_cst_2, val_main_v12, val_main_v13, val_main_v14, val_main_v15, val_main_cst_3, val_main_v16, val_main_v17, val_main_v18, val_main_v19, val_main_v20, val_main_v21, val_main_cst_4, val_main_v22, val_main_v23, val_main_v24, val_main_v25, val_main_v26, val_main_v27, val_main_cst_5, val_main_v28, val_main_v29, val_main_v30, val_main_v31, val_main_v32, val_main_v33, val_main_cst_6, val_main_v34, val_main_v35, val_main_v36, val_main_v37, val_main_v38, val_main_v39, val_main_cst_7, val_main_v40, val_main_v41, val_main_v42, val_main_v43, val_main_v44, val_main_v45, val_main_cst_8, val_main_v46, val_main_v47, val_main_v48, val_main_v49, val_main_v50, val_main_v51, val_main_cst_9, val_main_v52, val_main_v53, val_main_v54]

/-- The sine of its phase. -/
theorem sin_at (n : Fin 50000) (a : Fin 256) : val_main_v91 (F := Ideal) x0 x7 (ix2 n a)
    = sinR (val_main_v11 (F := Ideal) x0 x7 (ix2 n a)) := by
  unfold sinR
  pointwise [val_main_cst_10, val_main_v55, val_main_v56, val_main_v57, val_main_v58, val_main_cst_11, val_main_v59, val_main_v60, val_main_v61, val_main_v62, val_main_v63, val_main_v64, val_main_cst_12, val_main_v65, val_main_v66, val_main_v67, val_main_v68, val_main_v69, val_main_v70, val_main_cst_13, val_main_v71, val_main_v72, val_main_v73, val_main_v74, val_main_v75, val_main_v76, val_main_cst_14, val_main_v77, val_main_v78, val_main_v79, val_main_v80, val_main_v81, val_main_v82, val_main_cst_15, val_main_v83, val_main_v84, val_main_v85, val_main_v86, val_main_v87, val_main_v88, val_main_cst_16, val_main_v89, val_main_v90, val_main_v91, val_main_v12]

/-- The calculated amplitude of a reflection. -/
theorem amp_at (n : Fin 50000) : val_main_v98 (F := Ideal) x0 x7 (ix1 n)
    = Ideal.sqrt ((∑ a, val_main_v54 (F := Ideal) x0 x7 (ix2 n a)) * (∑ a, val_main_v54 (F := Ideal) x0 x7 (ix2 n a))
        + (∑ a, val_main_v91 (F := Ideal) x0 x7 (ix2 n a)) * (∑ a, val_main_v91 (F := Ideal) x0 x7 (ix2 n a)) + fl 0x2B8CBCCC#32) := by
  pointwise [val_main_cst_17, val_main_v92, val_main_v93, val_main_v94, val_main_v95, val_main_cst_18, val_main_v96, val_main_v97, val_main_v98, val_main_cst_10, val_main_v55]

/-- The normalised intensity. -/
theorem intensity_at (n : Fin 50000) : val_main_v100 (F := Ideal) x0 x2 x7 (ix1 n)
    = Ideal.div (val_main_v98 (F := Ideal) x0 x7 (ix1 n) * val_main_v98 (F := Ideal) x0 x7 (ix1 n)) (x2 (ix1 n)) := by
  pointwise [val_main_v99, val_main_v100]

/-- The mean intensity of a bin. -/
theorem mean_at (b : Fin 20) : val_main_v110 (F := Ideal) x0 x2 x6 x7 (ix1 b)
    = Ideal.div (val_main_v103 (F := Ideal) x0 x2 x6 x7 (ix1 b)) (max (val_main_v107 (F := Ideal) x6 (ix1 b)) 1) := by
  pointwise [val_main_cst_22, val_main_v108, val_main_v109, val_main_v110]

/-- The clipped figure of merit of a bin. -/
theorem clipped_at (b : Fin 20) : val_main_v121 (F := Ideal) x4 (ix1 b)
    = min (fl 0x3F7D70A4#32) (max (fl 0x3C75C28F#32) (x4 (ix1 b))) := by
  pointwise [val_main_cst_24, val_main_cst_25, val_main_call1_v0, val_main_call1_v1, val_main_call1_v2, val_main_call1_v3, val_main_call1_v4, val_main_v121]
  rfl

/-- The normalised calculated amplitude. -/
theorem ecalc_at (n : Fin 50000) : val_main_v120 (F := Ideal) x0 x2 x6 x7 (ix1 n)
    = Ideal.div (val_main_v98 (F := Ideal) x0 x7 (ix1 n)) (Ideal.sqrt (x2 (ix1 n) * val_main_v117 (F := Ideal) x0 x2 x6 x7 (ix1 n))) := by
  pointwise [val_main_v118, val_main_v119, val_main_v120]

/-- The correlation of a reflection. -/
theorem dsa_at (n : Fin 50000) : val_main_v129 (F := Ideal) x3 x4 x6 (ix1 n)
    = x3 (ix1 n) * val_main_v128 (F := Ideal) x4 x6 (ix1 n) := by
  pointwise [val_main_v129]

/-- The argument of the Bessel function, in absolute value. -/
theorem arg_at (n : Fin 50000) : val_main_v147 (F := Ideal) x0 x1 x2 x3 x4 x6 x7 (ix1 n)
    = absv (argA (x1 (ix1 n)) (val_main_v120 (F := Ideal) x0 x2 x6 x7 (ix1 n)) (val_main_v129 (F := Ideal) x3 x4 x6 (ix1 n))) := by
  unfold argA var
  pointwise [val_main_v130, val_main_cst_28, val_main_v131, val_main_v132, val_main_cst_29, val_main_v133, val_main_v134, val_main_v135, val_main_v136, val_main_v137, val_main_v138, val_main_v139, val_main_v140, val_main_v141, val_main_v142, val_main_v143, val_main_v144, val_main_v145, val_main_v146, val_main_v147]
  rfl

/-- The small-argument series. -/
theorem small_at (n : Fin 50000) : val_main_v201 (F := Ideal) x0 x1 x2 x3 x4 x6 x7 (ix1 n)
    = smallR (val_main_v147 (F := Ideal) x0 x1 x2 x3 x4 x6 x7 (ix1 n)) := by
  unfold smallR
  pointwise [val_main_cst_30, val_main_v148, val_main_v149, val_main_cst_31, val_main_v150, val_main_cst_32, val_main_v151, val_main_v152, val_main_cst_33, val_main_v153, val_main_v154, val_main_cst_34, val_main_v155, val_main_v156, val_main_v157, val_main_cst_35, val_main_v158, val_main_v159, val_main_v160, val_main_cst_36, val_main_v161, val_main_v162, val_main_v163, val_main_v164, val_main_cst_37, val_main_v165, val_main_v166, val_main_v167, val_main_cst_38, val_main_v168, val_main_v169, val_main_v170, val_main_v171, val_main_v172, val_main_cst_39, val_main_v173, val_main_v174, val_main_v175, val_main_cst_40, val_main_v176, val_main_v177, val_main_v178, val_main_v179, val_main_v180, val_main_cst_41, val_main_v181, val_main_v182, val_main_v183, val_main_cst_42, val_main_v184, val_main_v185, val_main_v186, val_main_v187, val_main_v188, val_main_v189, val_main_cst_43, val_main_v190, val_main_v191, val_main_v192, val_main_cst_44, val_main_v193, val_main_v194, val_main_v195, val_main_v196, val_main_v197, val_main_v198, val_main_cst_45, val_main_v199, val_main_v200, val_main_v201]

/-- The large-argument series. -/
theorem large_at (n : Fin 50000) : val_main_v266 (F := Ideal) x0 x1 x2 x3 x4 x6 x7 (ix1 n)
    = largeR (val_main_v147 (F := Ideal) x0 x1 x2 x3 x4 x6 x7 (ix1 n)) := by
  unfold largeR
  pointwise [val_main_cst_46, val_main_v202, val_main_v203, val_main_cst_47, val_main_v204, val_main_cst_48, val_main_v205, val_main_v206, val_main_cst_49, val_main_v207, val_main_v208, val_main_cst_50, val_main_v209, val_main_v210, val_main_cst_51, val_main_v211, val_main_v212, val_main_v213, val_main_cst_52, val_main_v214, val_main_v215, val_main_v216, val_main_cst_53, val_main_v217, val_main_v218, val_main_v219, val_main_cst_54, val_main_v220, val_main_v221, val_main_v222, val_main_v223, val_main_cst_55, val_main_v224, val_main_v225, val_main_v226, val_main_cst_56, val_main_v227, val_main_v228, val_main_v229, val_main_v230, val_main_cst_57, val_main_v231, val_main_v232, val_main_v233, val_main_cst_58, val_main_v234, val_main_v235, val_main_v236, val_main_v237, val_main_v238, val_main_cst_59, val_main_v239, val_main_v240, val_main_v241, val_main_cst_60, val_main_v242, val_main_v243, val_main_v244, val_main_v245, val_main_v246, val_main_cst_61, val_main_v247, val_main_v248, val_main_v249, val_main_cst_62, val_main_v250, val_main_v251, val_main_v252, val_main_v253, val_main_v254, val_main_v255, val_main_cst_63, val_main_v256, val_main_v257, val_main_v258, val_main_cst_64, val_main_v259, val_main_v260, val_main_v261, val_main_v262, val_main_v263, val_main_cst_65, val_main_v264, val_main_v265, val_main_v266]

/-- The logarithm of the Bessel function. -/
theorem logI0_at (n : Fin 50000) : val_main_v277 (F := Ideal) x0 x1 x2 x3 x4 x6 x7 (ix1 n)
    = logI0R (val_main_v147 (F := Ideal) x0 x1 x2 x3 x4 x6 x7 (ix1 n)) := by
  unfold logI0R
  rw [← small_at, ← large_at]
  pointwise [val_main_cst_66, val_main_v267, val_main_v268, val_main_v269, val_main_v270, val_main_v271, val_main_v272, val_main_v273, val_main_v274, val_main_v275, val_main_v276, val_main_v277, val_main_v147]

/-- The likelihood of an acentric reflection. -/
theorem acentric_at (n : Fin 50000) : val_main_v278 (F := Ideal) x0 x1 x2 x3 x4 x6 x7 (ix1 n)
    = acentricR (x1 (ix1 n)) (val_main_v120 (F := Ideal) x0 x2 x6 x7 (ix1 n)) (val_main_v129 (F := Ideal) x3 x4 x6 (ix1 n)) := by
  unfold acentricR
  rw [← arg_at, ← logI0_at]
  unfold var weighted
  pointwise [val_main_v130, val_main_cst_28, val_main_v131, val_main_v132, val_main_cst_29, val_main_v133, val_main_v134, val_main_v135, val_main_v136, val_main_v137, val_main_v138, val_main_v139, val_main_v140, val_main_v141, val_main_v142, val_main_v143, val_main_v144, val_main_v145, val_main_v146, val_main_v278]

/-- The logarithm of the hyperbolic cosine. -/
theorem logCosh_at (n : Fin 50000) : val_main_v296 (F := Ideal) x0 x1 x2 x3 x4 x6 x7 (ix1 n)
    = logCoshR (val_main_v281 (F := Ideal) x0 x1 x2 x3 x4 x6 x7 (ix1 n)) := by
  unfold logCoshR
  pointwise [val_main_v282, val_main_v283, val_main_v284, val_main_v285, val_main_v286, val_main_v287, val_main_v288, val_main_v289, val_main_v290, val_main_v291, val_main_v292, val_main_cst_67, val_main_v293, val_main_v294, val_main_v295, val_main_v296]
  rfl

/-- The likelihood of a centric reflection. -/
theorem centric_at (n : Fin 50000) : val_main_v309 (F := Ideal) x0 x1 x2 x3 x4 x6 x7 (ix1 n)
    = centricR (x1 (ix1 n)) (val_main_v120 (F := Ideal) x0 x2 x6 x7 (ix1 n)) (val_main_v129 (F := Ideal) x3 x4 x6 (ix1 n)) := by
  have h : val_main_v281 (F := Ideal) x0 x1 x2 x3 x4 x6 x7 (ix1 n)
      = Ideal.div (val_main_v129 (F := Ideal) x3 x4 x6 (ix1 n) * x1 (ix1 n) * val_main_v120 (F := Ideal) x0 x2 x6 x7 (ix1 n))
          (var (val_main_v129 (F := Ideal) x3 x4 x6 (ix1 n))) := by
    unfold var
    pointwise [val_main_v130, val_main_cst_28, val_main_v131, val_main_v132, val_main_v279, val_main_v280, val_main_v281]
  unfold centricR
  rw [← h, ← logCosh_at]
  unfold var weighted
  pointwise [val_main_v130, val_main_cst_28, val_main_v131, val_main_v132, val_main_cst_29, val_main_v133, val_main_v134, val_main_v135, val_main_v136, val_main_v137, val_main_v138, val_main_v139, val_main_v140, val_main_v141, val_main_v142, val_main_v143, val_main_v144, val_main_v145, val_main_v146, val_main_v297, val_main_cst_68, val_main_v298, val_main_v299, val_main_v300, val_main_v301, val_main_v302, val_main_v303, val_main_v304, val_main_cst_69, val_main_v305, val_main_v306, val_main_v307, val_main_v308, val_main_v309]

/-- The score. -/
theorem score_at : val_main_v313 (F := Ideal) x0 x1 x2 x3 x4 x5 x6 x7 x8 ix0
    = ∑ n : Fin 50000, Scalar.select (x5 (ix1 n)) (val_main_v309 (F := Ideal) x0 x1 x2 x3 x4 x6 x7 (ix1 n))
        (val_main_v278 (F := Ideal) x0 x1 x2 x3 x4 x6 x7 (ix1 n)) * FloatOps.uitofp (F := Ideal) .f32 (x8 (ix1 n)) := by
  pointwise [val_main_v310, val_main_v311, val_main_v312, val_main_cst_70, val_main_v313]

end Cert.ReferenceIdeal.Read

end
-- ==== Proof.RefBins.lean ====
/- The reference's two scatters and two gathers over the resolution bins, when every label names one of the twenty bins. -/
module

public import proofs.«01_k».proof.Proof.Ref
public import Idealize.ShloMosaic.Lib.Routing.OpsSet

@[expose] public section

set_option maxRecDepth 16384

noncomputable section

open Idealize.ShloMosaic Idealize.ShloMosaic.TcCoe Idealize.SL.Sem

namespace Cert.ReferenceIdeal.Read
open Cert.ReferenceIdeal Cert.ReferenceIdeal.Gen Cert.Score

/-- An update of the scatter lands in the bin its index names, and only there. -/
theorem lands (idx : IVec S50000x1 32) (n : Fin 50000) (b : Fin 20) :
    (scatter_S20_S50000x1_S50000_n_0_0_1).resultIdx? (ix1 n) idx = some (ix1 b) ↔ (idx (ix2 n (0 : Fin 1))).toInt = (b.val : Int) := by
  have hm : (0 : Fin 1) ∈ (scatter_S20_S50000x1_S50000_n_0_0_1).scatterDimsToOperandDims := List.mem_singleton.2 rfl
  have hwin : (scatter_S20_S50000x1_S50000_n_0_0_1).window (ix1 n) 0 = 0 := by
    unfold ScatterDims.window
    rw [dif_neg fun h => (of_decide_eq_true (List.mem_filter.1 h).2) (List.mem_singleton.2 rfl)]
  have hstart : (scatter_S20_S50000x1_S50000_n_0_0_1).start (ix1 n) idx 0 = (idx (ix2 n (0 : Fin 1))).toInt := by
    unfold ScatterDims.start
    rw [dif_pos hm]
    refine congrArg (fun z => (idx z).toInt) (funext fun a => Fin.ext ?_)
    match a with
    | ⟨0, _⟩ => rfl
    | ⟨1, _⟩ => rfl
  have hs : S20.size (0 : Fin 1) = 20 := rfl
  have hb := b.isLt
  unfold ScatterDims.resultIdx?
  split_ifs with h
  · have h0 := h 0
    rw [hstart, hwin, hs] at h0
    rw [Option.some.injEq]
    constructor
    · intro e
      have e0 : ((scatter_S20_S50000x1_S50000_n_0_0_1).start (ix1 n) idx 0
          + ((scatter_S20_S50000x1_S50000_n_0_0_1).window (ix1 n) 0 : Int)).toNat = b.val := congrArg Fin.val (congrFun e 0)
      rw [hstart, hwin] at e0
      omega
    · intro e
      funext a
      obtain rfl : a = 0 := Subsingleton.elim _ _
      refine Fin.ext ?_
      show ((scatter_S20_S50000x1_S50000_n_0_0_1).start (ix1 n) idx 0
          + ((scatter_S20_S50000x1_S50000_n_0_0_1).window (ix1 n) 0 : Int)).toNat = b.val
      rw [hstart, hwin]
      omega
  · refine ⟨fun e => (by cases e), fun e => absurd (fun a => ?_) h⟩
    obtain rfl : a = 0 := Subsingleton.elim _ _
    rw [hstart, hwin, hs]
    omega

/-- The scatter, read at a bin: what was there and the sum of the updates whose index is that bin. -/
theorem scatter_at (z : FVec Ideal S20 .f32) (idx : IVec S50000x1 32) (u : FVec Ideal S50000 .f32) (b : Fin 20) :
    Host.scatterAdd scatter_S20_S50000x1_S50000_n_0_0_1 z idx u (ix1 b)
      = z (ix1 b) + ∑ n : Fin 50000, if (idx (ix2 n (0 : Fin 1))).toInt = (b.val : Int) then u (ix1 n) else 0 := by
  show z (ix1 b) + ∑ j ∈ Finset.univ.filter (fun j => (scatter_S20_S50000x1_S50000_n_0_0_1).resultIdx? j idx = some (ix1 b)), u j = _
  rw [Finset.sum_filter, sum_idx1]
  refine congrArg _ (Finset.sum_congr rfl fun n _ => ?_)
  exact if_congr (lands idx n b) rfl rfl

variable (x0 : (⟨S256x3, .f32⟩ : BufTy).Contents (Elt Ideal)) (x1 x2 x3 : (⟨S50000, .f32⟩ : BufTy).Contents (Elt Ideal))
  (x4 : (⟨S20, .f32⟩ : BufTy).Contents (Elt Ideal)) (x5 : (⟨S50000, .i1⟩ : BufTy).Contents (Elt Ideal))
  (x6 : (⟨S50000, .i32⟩ : BufTy).Contents (Elt Ideal)) (x7 : (⟨S50000x3, .i32⟩ : BufTy).Contents (Elt Ideal))
  (x8 : (⟨S50000, .i1⟩ : BufTy).Contents (Elt Ideal))

/-- The sum of the intensities of a bin. -/
theorem seg_at (b : Fin 20) : val_main_v103 (F := Ideal) x0 x2 x6 x7 (ix1 b)
    = ∑ n : Fin 50000, if (x6 (ix1 n)).toInt = (b.val : Int) then val_main_v100 (F := Ideal) x0 x2 x7 (ix1 n) else 0 := by
  have hz : val_main_v101 (F := Ideal) (ix1 b) = 0 := by pointwise [val_main_cst_19, val_main_v101]
  have hi (n : Fin 50000) : val_main_v102 (F := Ideal) x6 (ix2 n (0 : Fin 1)) = x6 (ix1 n) := by pointwise [val_main_v102]
  unfold val_main_v103
  rw [scatter_at, hz, zero_add]
  exact Finset.sum_congr rfl fun n _ => by rw [hi]

/-- The number of reflections of a bin. -/
theorem cnt_at (b : Fin 20) : val_main_v107 (F := Ideal) x6 (ix1 b)
    = ∑ n : Fin 50000, if (x6 (ix1 n)).toInt = (b.val : Int) then (1 : EReal) else 0 := by
  have hz : val_main_v105 (F := Ideal) (ix1 b) = 0 := by pointwise [val_main_cst_21, val_main_v105]
  have ho (n : Fin 50000) : val_main_v104 (F := Ideal) (ix1 n) = 1 := by pointwise [val_main_cst_20, val_main_v104]
  have hi (n : Fin 50000) : val_main_v106 (F := Ideal) x6 (ix2 n (0 : Fin 1)) = x6 (ix1 n) := by pointwise [val_main_v106]
  unfold val_main_v107
  rw [scatter_at, hz, zero_add]
  exact Finset.sum_congr rfl fun n _ => by rw [hi, ho]

/-- A label that names a bin is not negative, so the wrap-around of negative labels leaves it. -/
theorem unwrapped (b : Fin 20) (y : BitVec 32) : Scalar.select (IntOp.cmpi .slt (BitVec.ofNat 32 b.val) 0#32) y (BitVec.ofNat 32 b.val)
    = BitVec.ofNat 32 b.val := by
  have h : IntOp.cmpi .slt (BitVec.ofNat 32 b.val) 0#32 = 0#1 := by revert b; decide
  rw [h]; rfl

/-- The mean intensity of a reflection's bin. -/
theorem mean_of (n : Fin 50000) (b : Fin 20) (h : x6 (ix1 n) = BitVec.ofNat 32 b.val) :
    val_main_v117 (F := Ideal) x0 x2 x6 x7 (ix1 n) = val_main_v110 (F := Ideal) x0 x2 x6 x7 (ix1 b) := by
  unfold val_main_v117
  refine Routing.gather_take1 _ rfl rfl rfl rfl _ _ n b ?_ (by norm_num)
  refine Eq.trans ?_ (unwrapped b (val_main_v114 (F := Ideal) x6 (ix1 n)))
  rw [← h]
  pointwise [val_main_c, val_main_v111, val_main_v112, val_main_c_23, val_main_v113, val_main_v115, val_main_v116]

/-- The figure of merit of a reflection's bin. -/
theorem merit_of (n : Fin 50000) (b : Fin 20) (h : x6 (ix1 n) = BitVec.ofNat 32 b.val) :
    val_main_v128 (F := Ideal) x4 x6 (ix1 n) = val_main_v121 (F := Ideal) x4 (ix1 b) := by
  unfold val_main_v128
  refine Routing.gather_take1 _ rfl rfl rfl rfl _ _ n b ?_ (by norm_num)
  refine Eq.trans ?_ (unwrapped b (val_main_v125 (F := Ideal) x6 (ix1 n)))
  rw [← h]
  pointwise [val_main_c_26, val_main_v122, val_main_v123, val_main_c_27, val_main_v124, val_main_v126, val_main_v127]

end Cert.ReferenceIdeal.Read

end
-- ==== Proof.Equal.lean ====
/- The kernel's score is the reference's: the sixteen padded rows of 3200 reflections against the plain arrays of 50000. -/
module

public import proofs.«01_k».proof.Proof.Kern
public import proofs.«01_k».proof.Proof.RefBins

@[expose] public section

set_option maxRecDepth 16384

noncomputable section

open Idealize.ShloMosaic Idealize.ShloMosaic.TcCoe Idealize.SL.Sem

namespace Cert.Score
open Cert.KernelIdeal Cert.KernelIdeal.Body
open Cert.ReferenceIdeal.Read (val_main_v1 val_main_v4 val_main_v11 val_main_v54 val_main_v91 val_main_v98 val_main_v100 val_main_v103
  val_main_v107 val_main_v110 val_main_v117 val_main_v120 val_main_v121 val_main_v128 val_main_v129 val_main_v278 val_main_v309 val_main_v313)

/-- A sum over sixteen rows of 3200 entries, of which only the first 50000 count, is the sum over those. -/
theorem sum_rows (g : Fin 16 → Fin 3200 → EReal) (h : Fin 50000 → EReal)
    (hin : ∀ i j (n : Fin 50000), 3200 * i.val + j.val = n.val → g i j = h n)
    (hout : ∀ i j, 50000 ≤ 3200 * i.val + j.val → g i j = 0) : ∑ i, ∑ j, g i j = ∑ n, h n := by
  let H : ℕ → EReal := fun n => if h' : n < 50000 then h ⟨n, h'⟩ else 0
  have e1 : ∀ i j, g i j = H (3200 * i.val + j.val) := fun i j => by
    by_cases h' : 3200 * i.val + j.val < 50000
    · rw [hin i j ⟨_, h'⟩ rfl]; simp only [H, dif_pos h']
    · rw [hout i j (not_lt.mp h')]; simp only [H, dif_neg h']
  have e2 : ∑ i : Fin 16, ∑ j : Fin 3200, g i j = ∑ x : Fin (16 * 3200), H x.val := by
    rw [← Finset.sum_product', ← Equiv.sum_comp (finProdFinEquiv (m := 16) (n := 3200)), Finset.univ_product_univ]
    refine Finset.sum_congr rfl fun p _ => ?_
    rw [e1]
    refine congrArg H ?_
    show _ = p.2.val + 3200 * p.1.val
    omega
  rw [e2, Fin.sum_univ_eq_sum_range (fun x => H x)]
  have e3 : ∑ n : Fin 50000, h n = ∑ n ∈ Finset.range 50000, H n := by
    rw [← Fin.sum_univ_eq_sum_range (fun x => H x)]
    exact Finset.sum_congr rfl fun n _ => by simp only [H, dif_pos n.isLt]
  rw [e3]
  refine (Finset.sum_subset (Finset.range_subset_range.mpr (by norm_num)) fun x _ hx => ?_).symm
  exact dif_neg (fun h' => hx (Finset.mem_range.mpr h'))

/-- The buffers of the kernel hold the reference's arguments, in sixteen rows of 3200, padded: what the padding of the flags
    `valid` and `sub` holds matters, and of the others it does not. -/
structure Holds (X0 : FVec Ideal S256x3 .f32) (X1 X2 X3 : FVec Ideal S50000 .f32) (X4 : FVec Ideal S20 .f32) (X5 : IVec S50000 1)
    (X6 : IVec S50000 32) (X7 : IVec S50000x3 32) (X8 : IVec S50000 1)
    (x0 : Vec Ideal S256x3 .f32) (x1 : Vec Ideal S3x51200 .f32) (x2 x3 x4 x5 : Vec Ideal S16x3200 .f32) (x6 : Vec Ideal S16x3200 .i32)
    (x7 x8 : Vec Ideal S16x3200 .f32) (x9 : Vec Ideal S32x1 .f32) : Prop where
  frac : ∀ a k, x0 (ix2 a k) = val_main_v1 (F := Ideal) X0 (ix2 a k)
  hkl : ∀ (k : Fin 3) (n : Fin 50000), x1 (ix2 k (⟨n.val, by omega⟩ : Fin 51200)) = FloatOps.sitofp (F := Ideal) .f32 (X7 (ix2 n k))
  eobs : ∀ (i : Fin 16) (j : Fin 3200) (n : Fin 50000), 3200 * i.val + j.val = n.val → x2 (ix2 i j) = X1 (ix1 n)
  eps : ∀ (i : Fin 16) (j : Fin 3200) (n : Fin 50000), 3200 * i.val + j.val = n.val → x3 (ix2 i j) = X2 (ix1 n)
  dobs : ∀ (i : Fin 16) (j : Fin 3200) (n : Fin 50000), 3200 * i.val + j.val = n.val → x4 (ix2 i j) = X3 (ix1 n)
  cent : ∀ (i : Fin 16) (j : Fin 3200) (n : Fin 50000), 3200 * i.val + j.val = n.val →
    x5 (ix2 i j) = FloatOps.uitofp (F := Ideal) .f32 (X5 (ix1 n))
  lab : ∀ (i : Fin 16) (j : Fin 3200) (n : Fin 50000), 3200 * i.val + j.val = n.val → x6 (ix2 i j) = X6 (ix1 n)
  sub : ∀ (i : Fin 16) (j : Fin 3200) (n : Fin 50000), 3200 * i.val + j.val = n.val →
    x7 (ix2 i j) = FloatOps.uitofp (F := Ideal) .f32 (X8 (ix1 n))
  sub_pad : ∀ (i : Fin 16) (j : Fin 3200), 50000 ≤ 3200 * i.val + j.val → x7 (ix2 i j) = 0
  valid : ∀ (i : Fin 16) (j : Fin 3200) (n : Fin 50000), 3200 * i.val + j.val = n.val → x8 (ix2 i j) = 1
  valid_pad : ∀ (i : Fin 16) (j : Fin 3200), 50000 ≤ 3200 * i.val + j.val → x8 (ix2 i j) = 0
  merit : ∀ b : Fin 20, x9 (ix2 (⟨b.val, by omega⟩ : Fin 32) (0 : Fin 1)) = X4 (ix1 b)

variable {X0 : FVec Ideal S256x3 .f32} {X1 X2 X3 : FVec Ideal S50000 .f32} {X4 : FVec Ideal S20 .f32} {X5 : IVec S50000 1}
  {X6 : IVec S50000 32} {X7 : IVec S50000x3 32} {X8 : IVec S50000 1}
  {x0 : Vec Ideal S256x3 .f32} {x1 : Vec Ideal S3x51200 .f32} {x2 x3 x4 x5 : Vec Ideal S16x3200 .f32} {x6 : Vec Ideal S16x3200 .i32}
  {x7 x8 : Vec Ideal S16x3200 .f32} {x9 : Vec Ideal S32x1 .f32}

section
variable (H : Holds X0 X1 X2 X3 X4 X5 X6 X7 X8 x0 x1 x2 x3 x4 x5 x6 x7 x8 x9)
include H

/-- The amplitude of a reflection. -/
theorem amp_eq (i : Fin 16) (j : Fin 3200) (n : Fin 50000) (hn : 3200 * i.val + j.val = n.val) :
    ampAll (F := Ideal) x0 x1 (ix2 i j) = val_main_v98 (F := Ideal) X0 X7 (ix1 n) := by
  have ht (a : Fin 256) : turns (F := Ideal) x0 (colBlock x1 i) (ix2 a j) = val_main_v4 (F := Ideal) X0 X7 (ix2 n a) := by
    rw [turns_at, ReferenceIdeal.Read.turns_at]
    refine Finset.sum_congr rfl fun k _ => ?_
    have hc : colBlock x1 i (ix2 k j) = x1 (ix2 k (⟨n.val, by omega⟩ : Fin 51200)) := by
      unfold colBlock
      refine congrArg x1 (funext fun a => Fin.ext ?_)
      match a with
      | ⟨0, _⟩ => rfl
      | ⟨1, _⟩ => exact hn
    rw [hc, H.hkl, H.frac, mul_comm]
  have hc (a : Fin 256) : cosK (phase (turns (F := Ideal) x0 (colBlock x1 i) (ix2 a j))) = val_main_v54 (F := Ideal) X0 X7 (ix2 n a) := by
    rw [ht, ReferenceIdeal.Read.cos_at, ReferenceIdeal.Read.phase_at, cos_eq _ (phase_ne_top _)]
  have hs (a : Fin 256) : sinK (phase (turns (F := Ideal) x0 (colBlock x1 i) (ix2 a j))) = val_main_v91 (F := Ideal) X0 X7 (ix2 n a) := by
    rw [ht, ReferenceIdeal.Read.sin_at, ReferenceIdeal.Read.phase_at, sin_eq _ (phase_ne_top _)]
  show amp (F := Ideal) x0 (colBlock x1 i) (ix2 (0 : Fin 1) j) = _
  rw [amp_at, ReferenceIdeal.Read.amp_at]
  simp only [hc, hs]

/-- The sum of the intensities of a bin. -/
theorem seg_eq (b : Fin 20) : ∑ j : Fin 3200, segAll (F := Ideal) x0 x1 x3 x8 x6 (ix2 (⟨b.val, by omega⟩ : Fin 32) j)
    = val_main_v103 (F := Ideal) X0 X2 X6 X7 (ix1 b) := by
  rw [ReferenceIdeal.Read.seg_at]
  simp only [segAll_at]
  rw [Finset.sum_comm]
  refine sum_rows _ _ (fun i j n hn => ?_) (fun i j h => ?_)
  · simp only [H.lab i j n hn, H.valid i j n hn, H.eps i j n hn, amp_eq H i j n hn, mul_one, ReferenceIdeal.Read.intensity_at]
  · simp only [H.valid_pad i j h, mul_zero, ite_self]

/-- The number of reflections of a bin. -/
theorem cnt_eq (b : Fin 20) : ∑ j : Fin 3200, cntAll (F := Ideal) x8 x6 (ix2 (⟨b.val, by omega⟩ : Fin 32) j)
    = val_main_v107 (F := Ideal) X6 (ix1 b) := by
  rw [ReferenceIdeal.Read.cnt_at]
  simp only [cntAll_at]
  rw [Finset.sum_comm]
  refine sum_rows _ _ (fun i j n hn => ?_) (fun i j h => ?_)
  · simp only [H.lab i j n hn, H.valid i j n hn]
  · simp only [H.valid_pad i j h, ite_self]

/-- The score. -/
theorem score_eq (hlab : ∀ n : Fin 50000, ∃ b : Fin 20, X6 (ix1 n) = BitVec.ofNat 32 b.val) :
    score (F := Ideal) (segAll x0 x1 x3 x8 x6) (cntAll x8 x6) (ampAll x0 x1) x2 x3 x4 x5 x6 x7 x9 (ix2 (0 : Fin 1) (0 : Fin 1))
      = val_main_v313 (F := Ideal) X0 X1 X2 X3 X4 X5 X6 X7 X8 ix0 := by
  have hid {e : EltTy} (x : Vec Ideal S16x3200 e) : shapeCast S16x3200 x Facts₀.shapeCasts_S16x3200_S16x3200 = x := shapeCast_self _ _
  unfold score
  simp only [hid]
  rw [total_at, ReferenceIdeal.Read.score_at]
  refine sum_rows _ _ (fun i j n hn => ?_) (fun i j h => ?_)
  · obtain ⟨b, hb⟩ := hlab n
    have hl : x6 (ix2 i j) = BitVec.ofNat 32 b.val := (H.lab i j n hn).trans hb
    have hp : pick (F := Ideal) x6 (binMean (segAll x0 x1 x3 x8 x6) (cntAll x8 x6)) (ix2 i j)
        = val_main_v117 (F := Ideal) X0 X2 X6 X7 (ix1 n) := by
      rw [pick_at _ _ i j b hl, binMean_at, seg_eq H, cnt_eq H, ReferenceIdeal.Read.mean_of _ _ _ _ n b hb, ReferenceIdeal.Read.mean_at]
    have hg : pick (F := Ideal) x6 (clipped x9) (ix2 i j) = val_main_v128 (F := Ideal) X4 X6 (ix1 n) := by
      rw [pick_at _ _ i j b hl, clipped_at, H.merit, ReferenceIdeal.Read.merit_of _ _ n b hb, ReferenceIdeal.Read.clipped_at]
    refine congrArg₂ (· * ·) ?_ (H.sub i j n hn)
    rw [llg_at, hp, hg, amp_eq H i j n hn, H.eobs i j n hn, H.eps i j n hn, H.dobs i j n hn, H.cent i j n hn,
      ← ReferenceIdeal.Read.ecalc_at, ← ReferenceIdeal.Read.dsa_at, centric_eq, acentric_eq, ← ReferenceIdeal.Read.acentric_at,
      ← ReferenceIdeal.Read.centric_at]
    rcases (by decide : ∀ v : BitVec 1, v = 0#1 ∨ v = 1#1) (X5 (ix1 n)) with h | h
    · rw [h, if_neg (not_not.mpr (by show ((_ : ℝ) : EReal) = 0; simp))]
      rfl
    · rw [h, if_pos (by show ((_ : ℝ) : EReal) ≠ 0; simp)]
      rfl
  · show _ * x7 (ix2 i j) = 0
    rw [H.sub_pad i j h, mul_zero]

end

end Cert.Score

end
-- ==== Proof.Host.lean ====
/- What the kernel's windows hold: the arrays the host lines before the region make of the arguments, row by row. -/
module

public import proofs.«01_k».proof.Proof.Equal
public import proofs.«01_k».proof.Proof.Gen.KernelIdeal.Frame
public import Idealize.ShloMosaic.Lib.Pipeline.ValueKit
public import Idealize.ShloMosaic.Lib.KernelVsHost

@[expose] public section

set_option maxRecDepth 16384

noncomputable section

open Idealize.ShloMosaic Idealize.ShloMosaic.TcCoe Idealize.SL.Sem

namespace Cert.KernelIdeal.Body
open Cert.KernelIdeal Cert.KernelIdeal.Gen

/-- An array of 50000 entries padded with one value and laid out as sixteen rows of 3200. -/
def padRows {α : Type} (x : S50000.Idx → α) (v : S_.Idx → α) : S16x3200.Idx → α :=
  shapeCast S16x3200 (pad S51200 ![0] ![1200] ![0] x v pads_S50000_S51200_012000 h_S_) shapeCasts_S51200_S16x3200

theorem padRows_cast {α : Type} (x : S50000.Idx → α) (v : S_.Idx → α) (i : Fin 16) (j : Fin 3200) :
    padRows x v (ix2 i j) = pad S51200 ![0] ![1200] ![0] x v pads_S50000_S51200_012000 h_S_
      (ix1 (⟨3200 * i.val + j.val, by omega⟩ : Fin 51200)) := by
  unfold padRows
  pointwise
  have e : i.val * 3200 + j.val = 3200 * i.val + j.val := by omega
  simp only [e]

/-- Inside: entry `3200 i + j` of the array. -/
theorem padRows_in {α : Type} (x : S50000.Idx → α) (v : S_.Idx → α) (i : Fin 16) (j : Fin 3200) (n : Fin 50000)
    (h : 3200 * i.val + j.val = n.val) : padRows x v (ix2 i j) = x (ix1 n) := by
  rw [padRows_cast]
  refine pad_apply_of_inside _ _ _ _ _ _ _ _ (ix1 n) fun a => ?_
  fin_cases a
  show 3200 * i.val + j.val = 0 + n.val * (0 + 1)
  omega

/-- Past the array's end: the padding value. -/
theorem padRows_out {α : Type} (x : S50000.Idx → α) (v : S_.Idx → α) (i : Fin 16) (j : Fin 3200)
    (h : 50000 ≤ 3200 * i.val + j.val) : padRows x v (ix2 i j) = v (Shape.Idx.first h_S_) := by
  rw [padRows_cast]
  refine pad_apply_of_not_inside _ _ _ _ _ _ _ _ (0 : Fin 1) ?_
  show ¬(0 ≤ 3200 * i.val + j.val ∧ (3200 * i.val + j.val - 0) % (0 + 1) = 0 ∧ (3200 * i.val + j.val - 0) / (0 + 1) < 50000)
  omega

theorem fl_zero : Ideal.ofBits .f32 0x00000000#32 = (0 : EReal) := by
  simp [Ideal.ofBits, Ideal.ieee]
theorem fl_one : Ideal.ofBits .f32 0x3F800000#32 = (1 : EReal) := by
  simp [Ideal.ofBits, Ideal.ieee, -EReal.coe_mul]; norm_num

variable (m : (ℓ : Loc nD τ sig) → Buf (Elt Ideal) ℓ) (c : Dev nD)

/-- Window 0 at the grid's one point is the whole of its array. -/
theorem block0 : iblk m c 0 t0_0 = V m c main_call0_v1 := by
  blk_ext! [iblk]
  all_goals first
    | rfl
    | (show 0 * _ + _ = _; omega)

/-- That array, of the arguments. -/
theorem array0 : V m c main_call0_v1 = (Host.divf (F := Ideal) (m ((c.tc).loc main_arg0)) (broadcastInDim S256x3 ![] bcast_S_S256x3 (constant (F := Ideal) S_ .f32 0x42480000#32)) : Vec Ideal S256x3 .f32) := by
  show StableHlo.after hostOps0 (fun b => m (c, b)) (Proc.tc.devRef main_call0_v1) = _
  unfold hostOps0
  after_results
  rfl

/-- Window 1 at the grid's one point is the whole of its array. -/
theorem block1 : iblk m c 1 t0_0 = V m c main_call0_v4 := by
  blk_ext! [iblk]
  all_goals first
    | rfl
    | (show 0 * _ + _ = _; omega)

/-- That array, of the arguments. -/
theorem array1 : V m c main_call0_v4 = (pad S3x51200 ![0, 0] ![0, 1200] ![0, 0] (transpose S3x50000 [1, 0] (sitofp (F := Ideal) .f32 (m ((c.tc).loc main_arg7))) transposes_S50000x3_S3x50000_1_0) (sitofp (F := Ideal) .f32 (constantI S_ 32 0#32)) pads_S3x50000_S3x51200_000_012000 h_S_ : Vec Ideal S3x51200 .f32) := by
  show StableHlo.after hostOps0 (fun b => m (c, b)) (Proc.tc.devRef main_call0_v4) = _
  unfold hostOps0
  after_results
  rfl

/-- Window 2 at the grid's one point is the whole of its array. -/
theorem block2 : iblk m c 2 t0_0 = V m c main_call0_v6 := by
  blk_ext! [iblk]
  all_goals first
    | rfl
    | (show 0 * _ + _ = _; omega)

/-- That array, of the arguments. -/
theorem array2 : V m c main_call0_v6 = (padRows (m ((c.tc).loc main_arg1)) (constant (F := Ideal) S_ .f32 0x00000000#32) : Vec Ideal S16x3200 .f32) := by
  show StableHlo.after hostOps0 (fun b => m (c, b)) (Proc.tc.devRef main_call0_v6) = _
  unfold hostOps0
  after_results
  rfl

/-- Window 3 at the grid's one point is the whole of its array. -/
theorem block3 : iblk m c 3 t0_0 = V m c main_call0_v8 := by
  blk_ext! [iblk]
  all_goals first
    | rfl
    | (show 0 * _ + _ = _; omega)

/-- That array, of the arguments. -/
theorem array3 : V m c main_call0_v8 = (padRows (m ((c.tc).loc main_arg2)) (constant (F := Ideal) S_ .f32 0x3F800000#32) : Vec Ideal S16x3200 .f32) := by
  show StableHlo.after hostOps0 (fun b => m (c, b)) (Proc.tc.devRef main_call0_v8) = _
  unfold hostOps0
  after_results
  rfl

/-- Window 4 at the grid's one point is the whole of its array. -/
theorem block4 : iblk m c 4 t0_0 = V m c main_call0_v10 := by
  blk_ext! [iblk]
  all_goals first
    | rfl
    | (show 0 * _ + _ = _; omega)

/-- That array, of the arguments. -/
theorem array4 : V m c main_call0_v10 = (padRows (m ((c.tc).loc main_arg3)) (constant (F := Ideal) S_ .f32 0x00000000#32) : Vec Ideal S16x3200 .f32) := by
  show StableHlo.after hostOps0 (fun b => m (c, b)) (Proc.tc.devRef main_call0_v10) = _
  unfold hostOps0
  after_results
  rfl

/-- Window 5 at the grid's one point is the whole of its array. -/
theorem block5 : iblk m c 5 t0_0 = V m c main_call0_v13 := by
  blk_ext! [iblk]
  all_goals first
    | rfl
    | (show 0 * _ + _ = _; omega)

/-- That array, of the arguments. -/
theorem array5 : V m c main_call0_v13 = (padRows (uitofp (F := Ideal) .f32 (m ((c.tc).loc main_arg5))) (constant (F := Ideal) S_ .f32 0x00000000#32) : Vec Ideal S16x3200 .f32) := by
  show StableHlo.after hostOps0 (fun b => m (c, b)) (Proc.tc.devRef main_call0_v13) = _
  unfold hostOps0
  after_results
  rfl

/-- Window 6 at the grid's one point is the whole of its array. -/
theorem block6 : iblk m c 6 t0_0 = V m c main_call0_v21 := by
  blk_ext! [iblk]
  all_goals first
    | rfl
    | (show 0 * _ + _ = _; omega)

/-- That array, of the arguments. -/
theorem array6 : V m c main_call0_v21 = (padRows (m ((c.tc).loc main_arg6)) (constantI S_ 32 0#32) : Vec Ideal S16x3200 .i32) := by
  show StableHlo.after hostOps0 (fun b => m (c, b)) (Proc.tc.devRef main_call0_v21) = _
  unfold hostOps0
  after_results
  rfl

/-- Window 7 at the grid's one point is the whole of its array. -/
theorem block7 : iblk m c 7 t0_0 = V m c main_call0_v16 := by
  blk_ext! [iblk]
  all_goals first
    | rfl
    | (show 0 * _ + _ = _; omega)

/-- That array, of the arguments. -/
theorem array7 : V m c main_call0_v16 = (padRows (uitofp (F := Ideal) .f32 (m ((c.tc).loc main_arg8))) (constant (F := Ideal) S_ .f32 0x00000000#32) : Vec Ideal S16x3200 .f32) := by
  show StableHlo.after hostOps0 (fun b => m (c, b)) (Proc.tc.devRef main_call0_v16) = _
  unfold hostOps0
  after_results
  rfl

/-- Window 8 at the grid's one point is the whole of its array. -/
theorem block8 : iblk m c 8 t0_0 = V m c main_call0_v19 := by
  blk_ext! [iblk]
  all_goals first
    | rfl
    | (show 0 * _ + _ = _; omega)

/-- That array, of the arguments. -/
theorem array8 : V m c main_call0_v19 = (padRows (broadcastInDim S50000 ![] bcast_S_S50000 (constant (F := Ideal) S_ .f32 0x3F800000#32)) (constant (F := Ideal) S_ .f32 0x00000000#32) : Vec Ideal S16x3200 .f32) := by
  show StableHlo.after hostOps0 (fun b => m (c, b)) (Proc.tc.devRef main_call0_v19) = _
  unfold hostOps0
  after_results
  rfl

/-- Window 9 at the grid's one point is the whole of its array. -/
theorem block9 : iblk m c 9 t0_0 = V m c main_call0_v23 := by
  blk_ext! [iblk]
  all_goals first
    | rfl
    | (show 0 * _ + _ = _; omega)

/-- That array, of the arguments. -/
theorem array9 : V m c main_call0_v23 = (shapeCast S32x1 (pad S32 ![0] ![12] ![0] (m ((c.tc).loc main_arg4)) (sitofp (F := Ideal) .f32 (constantI S_ 32 0#32)) pads_S20_S32_0120 h_S_) shapeCasts_S32_S32x1 : Vec Ideal S32x1 .f32) := by
  show StableHlo.after hostOps0 (fun b => m (c, b)) (Proc.tc.devRef main_call0_v23) = _
  unfold hostOps0
  after_results
  rfl

/-- The windows hold the arguments as `Cert.Score.Holds` asks. -/
theorem holds : Cert.Score.Holds (m ((c.tc).loc main_arg0)) (m ((c.tc).loc main_arg1)) (m ((c.tc).loc main_arg2))
    (m ((c.tc).loc main_arg3)) (m ((c.tc).loc main_arg4)) (m ((c.tc).loc main_arg5)) (m ((c.tc).loc main_arg6))
    (m ((c.tc).loc main_arg7)) (m ((c.tc).loc main_arg8))
    (iblk m c 0 t0_0) (iblk m c 1 t0_0) (iblk m c 2 t0_0) (iblk m c 3 t0_0) (iblk m c 4 t0_0) (iblk m c 5 t0_0)
    (iblk m c 6 t0_0) (iblk m c 7 t0_0) (iblk m c 8 t0_0) (iblk m c 9 t0_0) where
  frac a k := by
    refine (congrFun ((block0 m c).trans (array0 m c)) _).trans ?_
    rfl
  hkl k n := by
    refine (congrFun ((block1 m c).trans (array1 m c)) _).trans ?_
    refine (pad_apply_of_inside _ _ _ _ _ _ _ _ (ix2 k n) fun a => ?_).trans ?_
    · fin_cases a
      · show k.val = 0 + k.val * (0 + 1)
        omega
      · show n.val = 0 + n.val * (0 + 1)
        omega
    · pointwise
  eobs i j n h := (congrFun ((block2 m c).trans (array2 m c)) _).trans (padRows_in _ _ i j n h)
  eps i j n h := (congrFun ((block3 m c).trans (array3 m c)) _).trans (padRows_in _ _ i j n h)
  dobs i j n h := (congrFun ((block4 m c).trans (array4 m c)) _).trans (padRows_in _ _ i j n h)
  cent i j n h := (congrFun ((block5 m c).trans (array5 m c)) _).trans (padRows_in _ _ i j n h)
  lab i j n h := (congrFun ((block6 m c).trans (array6 m c)) _).trans (padRows_in _ _ i j n h)
  sub i j n h := (congrFun ((block7 m c).trans (array7 m c)) _).trans (padRows_in _ _ i j n h)
  sub_pad i j h := ((congrFun ((block7 m c).trans (array7 m c)) _).trans (padRows_out _ _ i j h)).trans fl_zero
  valid i j n h := ((congrFun ((block8 m c).trans (array8 m c)) _).trans (padRows_in _ _ i j n h)).trans fl_one
  valid_pad i j h := ((congrFun ((block8 m c).trans (array8 m c)) _).trans (padRows_out _ _ i j h)).trans fl_zero
  merit b := by
    refine (congrFun ((block9 m c).trans (array9 m c)) _).trans ?_
    pointwise
    refine dif_pos fun a => ?_
    fin_cases a
    exact b.isLt

end Cert.KernelIdeal.Body
-- ==== Proof.Join.lean ====
/- The kernel's result: what the tail reshapes, the one block the region wrote, and its equality with the reference's result. -/
module

public import proofs.«01_k».proof.Defs
public import proofs.«01_k».proof.Proof.Out
public import proofs.«01_k».proof.Proof.Host
public import proofs.«01_k».proof.Proof.Gen.Pre_labels_name_bins
public import proofs.«01_k».proof.Proof.Gen.ReferenceIdeal.Run

@[expose] public section

set_option maxRecDepth 16384

noncomputable section

open Idealize.ShloMosaic Idealize.ShloMosaic.TcCoe Idealize.SL.Sem

namespace Cert.KernelIdeal.Body
open Cert.KernelIdeal Cert.KernelIdeal.Gen
open Cert.ReferenceIdeal.Read (val_main_v313)

/-- A 32-bit word between 0 and 20 is one of the twenty bins. -/
theorem bin_of_range (w : BitVec 32) (h : IntOp.andi (IntOp.cmpi .sge w 0#32) (IntOp.cmpi .slt w 20#32) = 1#1) :
    ∃ b : Fin 20, w = BitVec.ofNat 32 b.val := by
  have h' : BitVec.ofBool (BitVec.sle 0#32 w) &&& BitVec.ofBool (BitVec.slt w 20#32) = 1#1 := h
  have hs : BitVec.sle 0#32 w = true ∧ BitVec.slt w 20#32 = true := by
    cases h0 : BitVec.sle 0#32 w <;> cases h1 : BitVec.slt w 20#32 <;> simp [h0, h1] at h' ⊢
  obtain ⟨h0, h1⟩ := hs
  rw [BitVec.sle_iff_toInt_le] at h0
  rw [BitVec.slt_iff_toInt_lt] at h1
  have e0 : (0#32).toInt = 0 := rfl
  have e1 : (20#32).toInt = 20 := rfl
  rw [e0] at h0
  rw [e1] at h1
  have hn : w.toNat < 20 := by
    have := w.toInt_eq_toNat_cond
    have := w.isLt
    split at * <;> omega
  exact ⟨⟨w.toNat, hn⟩, by simp⟩

variable (m : (ℓ : Loc nD τ sig) → Buf (Elt Ideal) ℓ) (c : Dev nD)

/-- The precondition names a bin for every reflection. -/
theorem labels (h : Cert.Pre_KernelIdeal_labels_name_bins m) (n : Fin 50000) :
    ∃ b : Fin 20, (m ((c.tc).loc main_arg6) : IVec S50000 32) (ix1 n) = BitVec.ofNat 32 b.val :=
  bin_of_range _ (congrFun (h c) (ix1 n))

/-- The kernel's score of the windows. -/
def scoreAt : Vec Ideal S1x1 .f32 :=
  score (F := Ideal) (segAll (iblk m c 0 t0_0) (iblk m c 1 t0_0) (iblk m c 3 t0_0) (iblk m c 8 t0_0) (iblk m c 6 t0_0))
    (cntAll (iblk m c 8 t0_0) (iblk m c 6 t0_0)) (ampAll (iblk m c 0 t0_0) (iblk m c 1 t0_0))
    (iblk m c 2 t0_0) (iblk m c 3 t0_0) (iblk m c 4 t0_0) (iblk m c 5 t0_0) (iblk m c 6 t0_0) (iblk m c 7 t0_0) (iblk m c 9 t0_0)

/-- The region leaves the score in its one output block. -/
theorem out_array : (dats m 0 c).arrAt 10 cfg0.N = scoreAt m c := by
  refine (dats m 0 c).arrAt_eq_of_after_last 10 t0_0 (by decide +kernel) _ fun j => ?_
  blk_simp
  rw [after0_10]
  unfold outsAt0
  rw [out_eq]
  rfl

/-- The tail's reshape of that block. -/
theorem tail_value : Pipeline.afterTail₀ cfgs (dats m) 0 (V0 m) [hostOps1] c main_v0
    = (shapeCast S_ (scoreAt m c) shapeCasts_S1x1_S_ : Vec Ideal S_ .f32) := by
  show StableHlo.after hostOps1 _ (Proc.tc.devRef main_v0) = _
  unfold hostOps1
  after_results
  have e := Pipeline.withArrays_arr (cfgs 0).spec launch0.2.arr_inj c (V0 m c) (fun w => (dats m 0 c).arrAt w (cfgs 0).N) 10
  have e' := e.trans (out_array m c)
  exact congrArg (fun x : Vec Ideal S1x1 .f32 => (shapeCast S_ x shapeCasts_S1x1_S_ : Vec Ideal S_ .f32)) e'

/-- The reference's result, of the kernel's arguments. -/
def result : Vec Ideal S_ .f32 :=
  val_main_v313 (F := Ideal) (m ((c.tc).loc main_arg0)) (m ((c.tc).loc main_arg1)) (m ((c.tc).loc main_arg2))
    (m ((c.tc).loc main_arg3)) (m ((c.tc).loc main_arg4)) (m ((c.tc).loc main_arg5)) (m ((c.tc).loc main_arg6))
    (m ((c.tc).loc main_arg7)) (m ((c.tc).loc main_arg8))

theorem scoreAt_eq (h : Cert.Pre_KernelIdeal_labels_name_bins m) :
    (shapeCast S_ (scoreAt m c) shapeCasts_S1x1_S_ : Vec Ideal S_ .f32) = result m c := by
  funext i
  obtain rfl : i = ix0 := Subsingleton.elim _ _
  refine Eq.trans ?_ (Cert.Score.score_eq (holds m c) (labels m c h))
  pointwise
  rfl

/-- Every run of the kernel ends with the reference's result. -/
theorem run_value (ρ : Dev nD → PrngReg) (h : Cert.Pre_KernelIdeal_labels_name_bins m) :
    θ_run defs (onTc (τ := τ) (main (F := Ideal))) ⟨m, fun _ => 0, ρ⟩ (fun r => ∀ c : Dev nD,
      r.2.mem ((c.tc : Thread nD τ).loc main_v0) = result m c) :=
  (θ_run defs _ _).mono (fun r hr c => (hr.rest_eq c main_v0 (by decide)).trans ((tail_value m c).trans (scoreAt_eq m c h)))
    (run_main m ρ)

end Cert.KernelIdeal.Body
-- ==== Proof.lean ====
module

public import proofs.«01_k».proof.Defs
public import proofs.«01_k».proof.Proof.Gen.Kernel
public import proofs.«01_k».proof.Proof.Gen.Kernel.Skeleton
public import proofs.«01_k».proof.Proof.Gen.Kernel.Launch
public import proofs.«01_k».proof.Proof.Gen.Kernel.Points
public import proofs.«01_k».proof.Proof.Gen.Kernel.Frame
public import proofs.«01_k».proof.Proof.Gen.KernelIdeal
public import proofs.«01_k».proof.Proof.Gen.KernelIdeal.Skeleton
public import proofs.«01_k».proof.Proof.Gen.KernelIdeal.Launch
public import proofs.«01_k».proof.Proof.Gen.KernelIdeal.Points
public import proofs.«01_k».proof.Proof.Gen.KernelIdeal.Frame
public import proofs.«01_k».proof.Proof.Gen.ReferenceIdeal
public import proofs.«01_k».proof.Proof.Gen.Pre_labels_name_bins
public import proofs.«01_k».proof.Proof.Gen.ReferenceIdeal.Run
public import proofs.«01_k».proof.Proof.Gen.ReferenceIdeal.Read
public import proofs.«01_k».proof.Proof.Join
public import Idealize.ShloMosaic.Lib.Claim
public import Idealize.ShloMosaic.Adequacy
public import Idealize.ShloMosaic.Init

@[expose] public section

noncomputable section

namespace Cert.Proof

open Idealize.ShloMosaic Idealize.ShloMosaic.TcCoe Idealize.SL.Sem

/-- The reference declares no semaphore, and its run leaves the arguments. -/
theorem frame_ri : Cert.quiescent_ReferenceIdeal := fun m ρ _ =>
  (θ_run Cert.ReferenceIdeal.defs _ _).mono (fun r h => ⟨fun c => (h c).2, sem_eq_zero_of_no_sems (by decide) r.2⟩)
    (Cert.ReferenceIdeal.Value.run (F := Ideal) m ρ)

/-- Each named constant of the kernel denotes its value. -/
theorem preserves : Cert.preserves_Kernel_KernelIdeal :=
  ⟨IdealRules.named_const.statement _ _ _ _ _ rfl, IdealRules.named_const.statement _ _ _ _ _ rfl, IdealRules.named_const.statement _ _ _ _ _ rfl,
    IdealRules.named_const.statement _ _ _ _ _ rfl, IdealRules.named_const.statement _ _ _ _ _ rfl, IdealRules.named_const.statement _ _ _ _ _ rfl,
    IdealRules.named_const.statement _ _ _ _ _ rfl, IdealRules.named_const.statement _ _ _ _ _ rfl, IdealRules.named_const.statement _ _ _ _ _ rfl,
    IdealRules.named_const.statement _ _ _ _ _ rfl, IdealRules.named_const.statement _ _ _ _ _ rfl, IdealRules.named_const.statement _ _ _ _ _ rfl,
    IdealRules.named_const.statement _ _ _ _ _ rfl⟩

/-- The kernel's result is the reference's, under the precondition on the labels. -/
theorem algebraic : Cert.algebraic_KernelIdeal_ReferenceIdeal_pre_labels_name_bins := by
  intro m ρ m' ρ' hpre hagree
  refine ⟨fun c => Cert.KernelIdeal.Body.result m c, ?_, ?_⟩
  · exact (θ_run Cert.KernelIdeal.defs _ _).mono (fun _ h c => ⟨h.1 c, h.2 c⟩)
      (θ_run_and (Cert.KernelIdeal.Body.run_value m ρ hpre) (Cert.KernelIdeal.Gen.unchanged (F := Ideal) m ρ))
  · refine (θ_run Cert.ReferenceIdeal.defs _ _).mono (fun _ h c => ⟨(h c).1.trans ?_, (h c).2⟩)
      (Cert.ReferenceIdeal.Value.run (F := Ideal) m' ρ')
    rw [Cert.ReferenceIdeal.Read.val_main_v313_eq]
    obtain ⟨h0, h1, h2, h3, h4, h5, h6, h7, h8⟩ := hagree c
    show Cert.ReferenceIdeal.Read.val_main_v313 (F := Ideal)
        (m' ((c.tc : Thread Cert.ReferenceIdeal.nD Cert.ReferenceIdeal.τ).loc Cert.ReferenceIdeal.main_arg0))
        (m' ((c.tc : Thread Cert.ReferenceIdeal.nD Cert.ReferenceIdeal.τ).loc Cert.ReferenceIdeal.main_arg1))
        (m' ((c.tc : Thread Cert.ReferenceIdeal.nD Cert.ReferenceIdeal.τ).loc Cert.ReferenceIdeal.main_arg2))
        (m' ((c.tc : Thread Cert.ReferenceIdeal.nD Cert.ReferenceIdeal.τ).loc Cert.ReferenceIdeal.main_arg3))
        (m' ((c.tc : Thread Cert.ReferenceIdeal.nD Cert.ReferenceIdeal.τ).loc Cert.ReferenceIdeal.main_arg4))
        (m' ((c.tc : Thread Cert.ReferenceIdeal.nD Cert.ReferenceIdeal.τ).loc Cert.ReferenceIdeal.main_arg5))
        (m' ((c.tc : Thread Cert.ReferenceIdeal.nD Cert.ReferenceIdeal.τ).loc Cert.ReferenceIdeal.main_arg6))
        (m' ((c.tc : Thread Cert.ReferenceIdeal.nD Cert.ReferenceIdeal.τ).loc Cert.ReferenceIdeal.main_arg7))
        (m' ((c.tc : Thread Cert.ReferenceIdeal.nD Cert.ReferenceIdeal.τ).loc Cert.ReferenceIdeal.main_arg8)) = Cert.KernelIdeal.Body.result m c
    rw [h0, h1, h2, h3, h4, h5, h6, h7, h8]
    rfl

theorem claim : Cert.Claim :=
  ⟨Cert.Kernel.Gen.facts, Cert.KernelIdeal.Gen.facts, Cert.ReferenceIdeal.Gen.facts, Cert.Pre_labels_name_bins.Gen.facts,
    fun m ρ _ => Cert.Kernel.Gen.frame m ρ, fun m ρ _ => Cert.KernelIdeal.Gen.frame m ρ,
    fun m ρ _ => Cert.KernelIdeal.Gen.frame m ρ, frame_ri, fun m ρ _ => frame_ri m ρ trivial, preserves, algebraic⟩

end Cert.Proof

end
